-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelDt (m : (ℓ : Loc Cert.KernelDt.nD Cert.KernelDt.τ Cert.KernelDt.sig) → Buf (Elt Bits) ℓ) : Prop :=
  True

def Pre_KernelDtIdeal (m : (ℓ : Loc Cert.KernelDtIdeal.nD Cert.KernelDtIdeal.τ Cert.KernelDtIdeal.sig) → Buf (Elt Ideal) ℓ) : Prop :=
  True

def Pre_ReferenceDtIdeal (m : (ℓ : Loc Cert.ReferenceDtIdeal.nD Cert.ReferenceDtIdeal.τ Cert.ReferenceDtIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1))
      ∧ r.2.sem = fun _ => 0)

def quiescent_KernelDt [hKernelDt : Cert.KernelDt.Facts] : Prop :=
  ∀ (m : (ℓ : Loc Cert.KernelDt.nD Cert.KernelDt.τ Cert.KernelDt.sig) → Buf (Elt Bits) ℓ) (g : Dev Cert.KernelDt.nD → PrngReg), Pre_KernelDt m →
    θ_run (Cert.KernelDt.defs (F := Bits)) (onTc (τ := Cert.KernelDt.τ) (Cert.KernelDt.main (F := Bits))) ⟨m, fun _ => 0, g⟩ (fun r => (∀ c : Dev Cert.KernelDt.nD,
      r.2.mem ((c.tc : Thread Cert.KernelDt.nD Cert.KernelDt.τ).loc Cert.KernelDt.main_arg0) = m ((c.tc : Thread Cert.KernelDt.nD Cert.KernelDt.τ).loc Cert.KernelDt.main_arg0)
      ∧ r.2.mem ((c.tc : Thread Cert.KernelDt.nD Cert.KernelDt.τ).loc Cert.KernelDt.main_arg1) = m ((c.tc : Thread Cert.KernelDt.nD Cert.KernelDt.τ).loc Cert.KernelDt.main_arg1))
      ∧ r.2.sem = fun _ => 0)

def quiescent_KernelDtIdeal [hKernelDtIdeal : Cert.KernelDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg), Pre_KernelDtIdeal m →
    θ_run (Cert.KernelDtIdeal.defs (F := Ideal)) (onTc (τ := Cert.KernelDtIdeal.τ) (Cert.KernelDtIdeal.main (F := Ideal))) ⟨m, fun _ => 0, g⟩ (fun r => (∀ c : Dev Cert.KernelDtIdeal.nD,
      r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
      ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1))
      ∧ r.2.sem = fun _ => 0)

def quiescent_ReferenceDtIdeal [hReferenceDtIdeal : Cert.ReferenceDtIdeal.Facts] : Prop :=
  ∀ (m : (ℓ : Loc Cert.ReferenceDtIdeal.nD Cert.ReferenceDtIdeal.τ Cert.ReferenceDtIdeal.sig) → Buf (Elt Ideal) ℓ) (g : Dev Cert.ReferenceDtIdeal.nD → PrngReg), Pre_ReferenceDtIdeal m →
    θ_run (Cert.ReferenceDtIdeal.defs (F := Ideal)) (onTc (τ := Cert.ReferenceDtIdeal.τ) (Cert.ReferenceDtIdeal.main (F := Ideal))) ⟨m, fun _ => 0, g⟩ (fun r => (∀ c : Dev Cert.ReferenceDtIdeal.nD,
      r.2.mem ((c.tc : Thread Cert.ReferenceDtIdeal.nD Cert.ReferenceDtIdeal.τ).loc Cert.ReferenceDtIdeal.main_arg0) = m ((c.tc : Thread Cert.ReferenceDtIdeal.nD Cert.ReferenceDtIdeal.τ).loc Cert.ReferenceDtIdeal.main_arg0)
      ∧ r.2.mem ((c.tc : Thread Cert.ReferenceDtIdeal.nD Cert.ReferenceDtIdeal.τ).loc Cert.ReferenceDtIdeal.main_arg1) = m ((c.tc : Thread Cert.ReferenceDtIdeal.nD Cert.ReferenceDtIdeal.τ).loc Cert.ReferenceDtIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)) →
    ∃ (v0 : (c : Dev Cert.KernelAIdeal.nD) → Buf (Elt Ideal) ((c.tc : Thread Cert.KernelAIdeal.nD Cert.KernelAIdeal.τ).loc Cert.KernelAIdeal.main_v6)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v6) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v3) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1))

def preserves_KernelDt_KernelDtIdeal : Prop :=
  True

def algebraic_KernelDtIdeal_ReferenceDtIdeal [hKernelDtIdeal : Cert.KernelDtIdeal.Facts] [hReferenceDtIdeal : Cert.ReferenceDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg)
    (m' : (ℓ : Loc Cert.ReferenceDtIdeal.nD Cert.ReferenceDtIdeal.τ Cert.ReferenceDtIdeal.sig) → Buf (Elt Ideal) ℓ) (g' : Dev Cert.ReferenceDtIdeal.nD → PrngReg), Pre_KernelDtIdeal m →
    (∀ c : Dev Cert.KernelDtIdeal.nD,
      m' ((c.tc : Thread Cert.ReferenceDtIdeal.nD Cert.ReferenceDtIdeal.τ).loc Cert.ReferenceDtIdeal.main_arg0) = m ((c.tc : Thread Cert.KernelDtIdeal.nD Cert.KernelDtIdeal.τ).loc Cert.KernelDtIdeal.main_arg0)
      ∧ m' ((c.tc : Thread Cert.ReferenceDtIdeal.nD Cert.ReferenceDtIdeal.τ).loc Cert.ReferenceDtIdeal.main_arg1) = m ((c.tc : Thread Cert.KernelDtIdeal.nD Cert.KernelDtIdeal.τ).loc Cert.KernelDtIdeal.main_arg1)) →
    ∃ (v0 : (c : Dev Cert.KernelDtIdeal.nD) → Buf (Elt Ideal) ((c.tc : Thread Cert.KernelDtIdeal.nD Cert.KernelDtIdeal.τ).loc Cert.KernelDtIdeal.main_v3_0)) (v1 : (c : Dev Cert.KernelDtIdeal.nD) → Buf (Elt Ideal) ((c.tc : Thread Cert.KernelDtIdeal.nD Cert.KernelDtIdeal.τ).loc Cert.KernelDtIdeal.main_v3_1)),
      θ_run (Cert.KernelDtIdeal.defs (F := Ideal)) (onTc (τ := Cert.KernelDtIdeal.τ) (Cert.KernelDtIdeal.main (F := Ideal))) ⟨m, fun _ => 0, g⟩ (fun r => ∀ c : Dev Cert.KernelDtIdeal.nD,
          r.2.mem ((c.tc : Thread Cert.KernelDtIdeal.nD Cert.KernelDtIdeal.τ).loc Cert.KernelDtIdeal.main_v3_0) = v0 c
          ∧ r.2.mem ((c.tc : Thread Cert.KernelDtIdeal.nD Cert.KernelDtIdeal.τ).loc Cert.KernelDtIdeal.main_v3_1) = v1 c
          ∧ r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
          ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1))
      ∧ θ_run (Cert.ReferenceDtIdeal.defs (F := Ideal)) (onTc (τ := Cert.ReferenceDtIdeal.τ) (Cert.ReferenceDtIdeal.main (F := Ideal))) ⟨m', fun _ => 0, g'⟩ (fun r => ∀ c : Dev Cert.ReferenceDtIdeal.nD,
          r.2.mem ((c.tc : Thread Cert.ReferenceDtIdeal.nD Cert.ReferenceDtIdeal.τ).loc Cert.ReferenceDtIdeal.main_v4) = v0 c
          ∧ r.2.mem ((c.tc : Thread Cert.ReferenceDtIdeal.nD Cert.ReferenceDtIdeal.τ).loc Cert.ReferenceDtIdeal.main_v5) = v1 c
          ∧ r.2.mem ((c.tc : Thread Cert.ReferenceDtIdeal.nD Cert.ReferenceDtIdeal.τ).loc Cert.ReferenceDtIdeal.main_arg0) = m' ((c.tc : Thread Cert.ReferenceDtIdeal.nD Cert.ReferenceDtIdeal.τ).loc Cert.ReferenceDtIdeal.main_arg0)
          ∧ r.2.mem ((c.tc : Thread Cert.ReferenceDtIdeal.nD Cert.ReferenceDtIdeal.τ).loc Cert.ReferenceDtIdeal.main_arg1) = m' ((c.tc : Thread Cert.ReferenceDtIdeal.nD Cert.ReferenceDtIdeal.τ).loc Cert.ReferenceDtIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v35) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def Claim : Prop :=
  ∃ (hKernel : Cert.Kernel.Facts) (hKernelIdeal : Cert.KernelIdeal.Facts) (hReferenceIdeal : Cert.ReferenceIdeal.Facts) (hKernelA : Cert.KernelA.Facts) (hKernelAIdeal : Cert.KernelAIdeal.Facts) (hReferenceAIdeal : Cert.ReferenceAIdeal.Facts) (hKernelDt : Cert.KernelDt.Facts) (hKernelDtIdeal : Cert.KernelDtIdeal.Facts) (hReferenceDtIdeal : Cert.ReferenceDtIdeal.Facts) (hKernelOut : Cert.KernelOut.Facts) (hKernelOutIdeal : Cert.KernelOutIdeal.Facts) (hReferenceOutIdeal : Cert.ReferenceOutIdeal.Facts),
    quiescent_Kernel (hKernel := hKernel)
    ∧ quiescent_KernelIdeal (hKernelIdeal := hKernelIdeal)
    ∧ quiescent_ReferenceIdeal (hReferenceIdeal := hReferenceIdeal)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelDt (hKernelDt := hKernelDt)
    ∧ quiescent_KernelDtIdeal (hKernelDtIdeal := hKernelDtIdeal)
    ∧ quiescent_ReferenceDtIdeal (hReferenceDtIdeal := hReferenceDtIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ preserves_Kernel_KernelIdeal
    ∧ algebraic_KernelIdeal_ReferenceIdeal (hKernelIdeal := hKernelIdeal) (hReferenceIdeal := hReferenceIdeal)
    ∧ preserves_KernelA_KernelAIdeal
    ∧ algebraic_KernelAIdeal_ReferenceAIdeal (hKernelAIdeal := hKernelAIdeal) (hReferenceAIdeal := hReferenceAIdeal)
    ∧ preserves_KernelDt_KernelDtIdeal
    ∧ algebraic_KernelDtIdeal_ReferenceDtIdeal (hKernelDtIdeal := hKernelDtIdeal) (hReferenceDtIdeal := hReferenceDtIdeal)
    ∧ preserves_KernelOut_KernelOutIdeal
    ∧ algebraic_KernelOutIdeal_ReferenceOutIdeal (hKernelOutIdeal := hKernelOutIdeal) (hReferenceOutIdeal := hReferenceOutIdeal)
-- ==== Kernel.lean ====
abbrev S4x2048x4096 : Shape := ⟨3, ![4, 2048, 4096]⟩
abbrev S1x4096x18496 : Shape := ⟨3, ![1, 4096, 18496]⟩
abbrev S8192x4096 : Shape := ⟨2, ![8192, 4096]⟩
abbrev S1x18496x4096 : Shape := ⟨3, ![1, 18496, 4096]⟩
abbrev S18496x4096 : Shape := ⟨2, ![18496, 4096]⟩
abbrev S64x8192x128 : Shape := ⟨3, ![64, 8192, 128]⟩
abbrev S1024x4096 : Shape := ⟨2, ![1024, 4096]⟩
abbrev S512x4096 : Shape := ⟨2, ![512, 4096]⟩
abbrev S4x1024x128 : Shape := ⟨3, ![4, 1024, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S1x4096x18496, .f32⟩
  | .hbm, ⟨2, _⟩ => ⟨S8192x4096, .f32⟩
  | .hbm, ⟨3, _⟩ => ⟨S8192x4096, .bf16⟩
  | .hbm, ⟨4, _⟩ => ⟨S1x18496x4096, .f32⟩
  | .hbm, ⟨5, _⟩ => ⟨S18496x4096, .f32⟩
  | .hbm, ⟨6, _⟩ => ⟨S64x8192x128, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S4x1024x128, .f32⟩
  | .local _ .vmem, ⟨5, _⟩ => ⟨S4x1024x128, .f32⟩
  | .local _ .vmem, ⟨6, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c10304_i32 : BitVec 32 := 10304#32
  let arg0 : BitVec 32 := BitVec.ofNat 32 (i 0).val
  let c512_i32 : BitVec 32 := 512#32
  let v0 : BitVec 32 := Scalar.muli arg0 c512_i32
  let v1 : BitVec 32 := Scalar.addi c10304_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c10304_i32 : BitVec 32 := 10304#32
  let v1 : BitVec 32 := Scalar.addi c10304_i32 v0
  let v2 : BitVec 32 := v1
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2048x4096 : Shape := ⟨3, ![4, 2048, 4096]⟩
abbrev S1x4096x18496 : Shape := ⟨3, ![1, 4096, 18496]⟩
abbrev S8192x4096 : Shape := ⟨2, ![8192, 4096]⟩
abbrev S4096x18496 : Shape := ⟨2, ![4096, 18496]⟩
abbrev S8192x18496 : Shape := ⟨2, ![8192, 18496]⟩
abbrev S8192x8192 : Shape := ⟨2, ![8192, 8192]⟩
abbrev S8192x64x128 : Shape := ⟨3, ![8192, 64, 128]⟩
abbrev S64x8192x128 : Shape := ⟨3, ![64, 8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x18496, .f32⟩
  | .hbm, ⟨2, _⟩ => ⟨S8192x4096, .f32⟩
  | .hbm, ⟨3, _⟩ => ⟨S4096x18496, .f32⟩
  | .hbm, ⟨4, _⟩ => ⟨S8192x18496, .f32⟩
  | .hbm, ⟨5, _⟩ => ⟨S8192x8192, .f32⟩
  | .hbm, ⟨6, _⟩ => ⟨S8192x64x128, .f32⟩
  | .hbm, ⟨7, _⟩ => ⟨S64x8192x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelA.lean ====
abbrev S4x2048x4096 : Shape := ⟨3, ![4, 2048, 4096]⟩
abbrev S1x4096x18496 : Shape := ⟨3, ![1, 4096, 18496]⟩
abbrev S8192x4096 : Shape := ⟨2, ![8192, 4096]⟩
abbrev S1x18496x4096 : Shape := ⟨3, ![1, 18496, 4096]⟩
abbrev S18496x4096 : Shape := ⟨2, ![18496, 4096]⟩
abbrev S10240x4096 : Shape := ⟨2, ![10240, 4096]⟩
abbrev S8192x10240 : Shape := ⟨2, ![8192, 10240]⟩
abbrev S1024x4096 : Shape := ⟨2, ![1024, 4096]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S1x4096x18496, .f32⟩
  | .hbm, ⟨2, _⟩ => ⟨S8192x4096, .f32⟩
  | .hbm, ⟨3, _⟩ => ⟨S8192x4096, .bf16⟩
  | .hbm, ⟨4, _⟩ => ⟨S1x18496x4096, .f32⟩
  | .hbm, ⟨5, _⟩ => ⟨S18496x4096, .f32⟩
  | .hbm, ⟨6, _⟩ => ⟨S10240x4096, .f32⟩
  | .hbm, ⟨7, _⟩ => ⟨S10240x4096, .bf16⟩
  | .hbm, ⟨8, _⟩ => ⟨S8192x10240, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAIdeal.lean ====
abbrev S4x2048x4096 : Shape := ⟨3, ![4, 2048, 4096]⟩
abbrev S1x4096x18496 : Shape := ⟨3, ![1, 4096, 18496]⟩
abbrev S8192x4096 : Shape := ⟨2, ![8192, 4096]⟩
abbrev S4096x18496 : Shape := ⟨2, ![4096, 18496]⟩
abbrev S8192x18496 : Shape := ⟨2, ![8192, 18496]⟩
abbrev S8192x10240 : Shape := ⟨2, ![8192, 10240]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x18496, .f32⟩
  | .hbm, ⟨2, _⟩ => ⟨S8192x4096, .f32⟩
  | .hbm, ⟨3, _⟩ => ⟨S4096x18496, .f32⟩
  | .hbm, ⟨4, _⟩ => ⟨S8192x18496, .f32⟩
  | .hbm, ⟨5, _⟩ => ⟨S8192x10240, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDt.lean ====
abbrev S4x2048x4096 : Shape := ⟨3, ![4, 2048, 4096]⟩
abbrev S1x4096x18496 : Shape := ⟨3, ![1, 4096, 18496]⟩
abbrev S8192x4096 : Shape := ⟨2, ![8192, 4096]⟩
abbrev S1x18496x4096 : Shape := ⟨3, ![1, 18496, 4096]⟩
abbrev S18496x4096 : Shape := ⟨2, ![18496, 4096]⟩
abbrev S8192x128 : Shape := ⟨2, ![8192, 128]⟩
abbrev S512x4096 : Shape := ⟨2, ![512, 4096]⟩
abbrev S128x4096 : Shape := ⟨2, ![128, 4096]⟩
abbrev S512x128 : Shape := ⟨2, ![512, 128]⟩
abbrev S4096x128 : Shape := ⟨2, ![4096, 128]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S1x4096x18496, .f32⟩
  | .hbm, ⟨2, _⟩ => ⟨S8192x4096, .f32⟩
  | .hbm, ⟨3, _⟩ => ⟨S1x18496x4096, .f32⟩
  | .hbm, ⟨4, _⟩ => ⟨S18496x4096, .f32⟩
  | .hbm, ⟨5, _⟩ => ⟨S8192x4096, .bf16⟩
  | .hbm, ⟨6, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S512x4096, .bf16⟩
  | .local _ .vmem, ⟨4, _⟩ => ⟨S512x4096, .bf16⟩
  | .local _ .vmem, ⟨5, _⟩ => ⟨S512x128, .f32⟩
  | .local _ .vmem, ⟨6, _⟩ => ⟨S512x128, .f32⟩
  | .local _ .vmem, ⟨7, _⟩ => ⟨S4096x128, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c10240_i32 : BitVec 32 := 10240#32
  let c0_i32 : BitVec 32 := 0#32
  let c0_i32_0 : BitVec 32 := 0#32
  ![c10240_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceDtIdeal.lean ====
abbrev S4x2048x4096 : Shape := ⟨3, ![4, 2048, 4096]⟩
abbrev S1x4096x18496 : Shape := ⟨3, ![1, 4096, 18496]⟩
abbrev S8192x4096 : Shape := ⟨2, ![8192, 4096]⟩
abbrev S4096x18496 : Shape := ⟨2, ![4096, 18496]⟩
abbrev S8192x18496 : Shape := ⟨2, ![8192, 18496]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x18496, .f32⟩
  | .hbm, ⟨2, _⟩ => ⟨S8192x4096, .f32⟩
  | .hbm, ⟨3, _⟩ => ⟨S4096x18496, .f32⟩
  | .hbm, ⟨4, _⟩ => ⟨S8192x18496, .f32⟩
  | .hbm, ⟨5, _⟩ => ⟨S8192x4096, .f32⟩
  | .hbm, ⟨6, _⟩ => ⟨S8192x4096, .bf16⟩
  | .hbm, ⟨7, _⟩ => ⟨S8192x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelOut.lean ====
abbrev S8192x4096 : Shape := ⟨2, ![8192, 4096]⟩
abbrev S32x8192x128 : Shape := ⟨3, ![32, 8192, 128]⟩
abbrev S1x8192x4096 : Shape := ⟨3, ![1, 8192, 4096]⟩
abbrev S4x2048x4096 : Shape := ⟨3, ![4, 2048, 4096]⟩
abbrev S1x4096 : Shape := ⟨2, ![1, 4096]⟩
abbrev S1024x1024 : Shape := ⟨2, ![1024, 1024]⟩
abbrev S8x1024x128 : Shape := ⟨3, ![8, 1024, 128]⟩
abbrev S1024x4096 : Shape := ⟨2, ![1024, 4096]⟩
abbrev S8x64x4096 : Shape := ⟨3, ![8, 64, 4096]⟩
abbrev S8 : Shape := ⟨1, ![8]⟩
abbrev S_ : Shape := ⟨0, ![]⟩
abbrev S1 : Shape := ⟨1, ![1]⟩
abbrev S1x64x4096 : Shape := ⟨3, ![1, 64, 4096]⟩
abbrev S64x4096 : Shape := ⟨2, ![64, 4096]⟩
abbrev S1024x512 : Shape := ⟨2, ![1024, 512]⟩
abbrev S1x1024x128 : Shape := ⟨3, ![1, 1024, 128]⟩
abbrev S1024x128 : Shape := ⟨2, ![1024, 128]⟩
abbrev S64 : Shape := ⟨1, ![64]⟩
abbrev S64x1 : Shape := ⟨2, ![64, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S32x8192x128, .f32⟩
  | .hbm, ⟨2, _⟩ => ⟨S1x8192x4096, .f32⟩
  | .hbm, ⟨3, _⟩ => ⟨S4x2048x4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S8x1024x128, .f32⟩
  | .local _ .vmem, ⟨3, _⟩ => ⟨S8x1024x128, .f32⟩
  | .local _ .vmem, ⟨4, _⟩ => ⟨S1024x4096, .bf16⟩
  | .local _ .vmem, ⟨5, _⟩ => ⟨S1024x4096, .bf16⟩
  | .local _ .vmem, ⟨6, _⟩ => ⟨S1x4096, .f32⟩
  | .local _ .vmem, ⟨7, _⟩ => ⟨S1x4096, .f32⟩
  | .local _ .vmem, ⟨8, _⟩ => ⟨S1024x4096, .f32⟩
  | .local _ .vmem, ⟨9, _⟩ => ⟨S8x64x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v14 : BitVec 32 := Scalar.muli arg0 c1024_i32
  let c0_i32_6 : BitVec 32 := 0#32
  let v15 : BitVec 32 := Scalar.addi v14 c0_i32_6
  v15
def k0_off1 (i : grid0.Coords) (c0_i32_6 : BitVec 32) : Fin 2 → Nat :=
  let arg0 : BitVec 32 := BitVec.ofNat 32 (i 0).val
  let c1024_i32 : BitVec 32 := 1024#32
  let v14 : BitVec 32 := Scalar.muli arg0 c1024_i32
  let v15 : BitVec 32 := Scalar.addi v14 c0_i32_6
  let v16 : BitVec 32 := v15
  let c0_i32_11 : BitVec 32 := 0#32
  ![v16.toNat, 0]
def k0_mult2 (i : grid0.Coords) : BitVec 32 :=
  let arg0 : BitVec 32 := BitVec.ofNat 32 (i 0).val
  let c1024_i32_12 : BitVec 32 := 1024#32
  let v22 : BitVec 32 := Scalar.muli arg0 c1024_i32_12
  let c64_i32 : BitVec 32 := 64#32
  let v23 : BitVec 32 := Scalar.addi v22 c64_i32
  v23
def k0_mult3 (i : grid0.Coords) : BitVec 32 :=
  let arg0 : BitVec 32 := BitVec.ofNat 32 (i 0).val
  let c1024_i32_17 : BitVec 32 := 1024#32
  let v30 : BitVec 32 := Scalar.muli arg0 c1024_i32_17
  let c128_i32 : BitVec 32 := 128#32
  let v31 : BitVec 32 := Scalar.addi v30 c128_i32
  v31
def k0_mult4 (i : grid0.Coords) : BitVec 32 :=
  let arg0 : BitVec 32 := BitVec.ofNat 32 (i 0).val
  let c1024_i32_22 : BitVec 32 := 1024#32
  let v38 : BitVec 32 := Scalar.muli arg0 c1024_i32_22
  let c192_i32 : BitVec 32 := 192#32
  let v39 : BitVec 32 := Scalar.addi v38 c192_i32
  v39
def k0_mult5 (i : grid0.Coords) : BitVec 32 :=
  let arg0 : BitVec 32 := BitVec.ofNat 32 (i 0).val
  let c1024_i32_27 : BitVec 32 := 1024#32
  let v46 : BitVec 32 := Scalar.muli arg0 c1024_i32_27
  let c256_i32 : BitVec 32 := 256#32
  let v47 : BitVec 32 := Scalar.addi v46 c256_i32
  v47
def k0_mult6 (i : grid0.Coords) : BitVec 32 :=
  let arg0 : BitVec 32 := BitVec.ofNat 32 (i 0).val
  let c1024_i32_33 : BitVec 32 := 1024#32
  let v54 : BitVec 32 := Scalar.muli arg0 c1024_i32_33
  let c320_i32 : BitVec 32 := 320#32
  let v55 : BitVec 32 := Scalar.addi v54 c320_i32
  v55
def k0_mult7 (i : grid0.Coords) : BitVec 32 :=
  let arg0 : BitVec 32 := BitVec.ofNat 32 (i 0).val
  let c1024_i32_38 : BitVec 32 := 1024#32
  let v62 : BitVec 32 := Scalar.muli arg0 c1024_i32_38
  let c384_i32 : BitVec 32 := 384#32
  let v63 : BitVec 32 := Scalar.addi v62 c384_i32
  v63
def k0_mult8 (i : grid0.Coords) : BitVec 32 :=
  let arg0 : BitVec 32 := BitVec.ofNat 32 (i 0).val
  let c1024_i32_43 : BitVec 32 := 1024#32
  let v70 : BitVec 32 := Scalar.muli arg0 c1024_i32_43
  let c448_i32 : BitVec 32 := 448#32
  let v71 : BitVec 32 := Scalar.addi v70 c448_i32
  v71
def k0_cond4 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_6 : BitVec 32 := 0#32
  let c16_i32 : BitVec 32 := 16#32
  let v14 : BitVec 32 := Scalar.addi c0_i32_6 c16_i32
  let c1_i32 : BitVec 32 := 1#32
  ⟨c0_i32_6, v14, c1_i32⟩
def k0_mult9 (i : grid0.Coords) (k0_t1 : Fin k0_t1_loop.trips) : BitVec 32 :=
  let arg0 : BitVec 32 := BitVec.ofNat 32 (i 0).val
  let c1024_i32 : BitVec 32 := 1024#32
  let v26 : BitVec 32 := Scalar.muli arg0 c1024_i32
  let c0_i32_6 : BitVec 32 := 0#32
  let c1_i32 : BitVec 32 := 1#32
  let arg13 : BitVec 32 := Scf.iv c0_i32_6 c1_i32 k0_t1
  let c64_i32 : BitVec 32 := 64#32
  let v27 : BitVec 32 := Scalar.muli arg13 c64_i32
  let v28 : BitVec 32 := Scalar.addi v26 v27
  v28
def k0_off2 (k0_t1 : Fin k0_t1_loop.trips) : Fin 1 → Nat :=
  let c0_i32_6 : BitVec 32 := 0#32
  let c1_i32 : BitVec 32 := 1#32
  let arg13 : BitVec 32 := Scf.iv c0_i32_6 c1_i32 k0_t1
  let c8_i32 : BitVec 32 := 8#32
  let c0_i32_12 : BitVec 32 := 0#32
  let v16 : BitVec 1 := Scalar.cmpi .eq c8_i32 c0_i32_12
  let c1_i32_13 : BitVec 32 := 1#32
  let v17 : BitVec 32 := Scalar.select v16 c1_i32_13 c8_i32
  let v18 : BitVec 32 := Scalar.remsi arg13 v17
  let c0_i32_15 : BitVec 32 := 0#32
  let v20 : BitVec 1 := Scalar.cmpi .slt v18 c0_i32_15
  let c0_i32_16 : BitVec 32 := 0#32
  let v21 : BitVec 1 := Scalar.cmpi .slt v17 c0_i32_16
  let v22 : BitVec 1 := Scalar.xori v20 v21
  let c0_i32_14 : BitVec 32 := 0#32
  let v19 : BitVec 1 := Scalar.cmpi .ne v18 c0_i32_14
  let v23 : BitVec 1 := Scalar.andi v22 v19
  let v24 : BitVec 32 := Scalar.addi v18 v17
  let v25 : BitVec 32 := Scalar.select v23 v24 v18
  ![v25.toNat]
def k0_off3 (k0_t1 : Fin k0_t1_loop.trips) : Fin 3 → Nat :=
  let c0_i32_6 : BitVec 32 := 0#32
  let c1_i32 : BitVec 32 := 1#32
  let arg13 : BitVec 32 := Scf.iv c0_i32_6 c1_i32 k0_t1
  let c8_i32 : BitVec 32 := 8#32
  let c0_i32_12 : BitVec 32 := 0#32
  let v16 : BitVec 1 := Scalar.cmpi .eq c8_i32 c0_i32_12
  let c1_i32_13 : BitVec 32 := 1#32
  let v17 : BitVec 32 := Scalar.select v16 c1_i32_13 c8_i32
  let v18 : BitVec 32 := Scalar.remsi arg13 v17
  let c0_i32_15 : BitVec 32 := 0#32
  let v20 : BitVec 1 := Scalar.cmpi .slt v18 c0_i32_15
  let c0_i32_16 : BitVec 32 := 0#32
  let v21 : BitVec 1 := Scalar.cmpi .slt v17 c0_i32_16
  let v22 : BitVec 1 := Scalar.xori v20 v21
  let c0_i32_14 : BitVec 32 := 0#32
  let v19 : BitVec 1 := Scalar.cmpi .ne v18 c0_i32_14
  let v23 : BitVec 1 := Scalar.andi v22 v19
  let v24 : BitVec 32 := Scalar.addi v18 v17
  let v25 : BitVec 32 := Scalar.select v23 v24 v18
  let c0_i32_17 : BitVec 32 := 0#32
  let c0_i32_18 : BitVec 32 := 0#32
  ![v25.toNat, 0, 0]
def k0_off4 (i : grid0.Coords) (k0_t1 : Fin k0_t1_loop.trips) : Fin 2 → Nat :=
  let arg0 : BitVec 32 := BitVec.ofNat 32 (i 0).val
  let c1024_i32 : BitVec 32 := 1024#32
  let v26 : BitVec 32 := Scalar.muli arg0 c1024_i32
  let c0_i32_6 : BitVec 32 := 0#32
  let c1_i32 : BitVec 32 := 1#32
  let arg13 : BitVec 32 := Scf.iv c0_i32_6 c1_i32 k0_t1
  let c64_i32 : BitVec 32 := 64#32
  let v27 : BitVec 32 := Scalar.muli arg13 c64_i32
  let v28 : BitVec 32 := Scalar.addi v26 v27
  let v29 : BitVec 32 := v28
  let c0_i32_19 : BitVec 32 := 0#32
  ![v29.toNat, 0]
def k0_mult10 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c64_i32_20 : BitVec 32 := 64#32
  let v35 : BitVec 32 := Scalar.muli arg13 c64_i32_20
  v35
def k0_off5 (k0_t1 : Fin k0_t1_loop.trips) : Fin 2 → Nat :=
  let c0_i32_6 : BitVec 32 := 0#32
  let c1_i32 : BitVec 32 := 1#32
  let arg13 : BitVec 32 := Scf.iv c0_i32_6 c1_i32 k0_t1
  let c64_i32_20 : BitVec 32 := 64#32
  let v35 : BitVec 32 := Scalar.muli arg13 c64_i32_20
  let v36 : BitVec 32 := v35
  let v37 : Index := Scalar.indexCast v36
  let c0 : Index := 0#32
  ![v37.toNat, 0]
def k0_off6 (k0_t1 : Fin k0_t1_loop.trips) : Fin 3 → Nat :=
  let c0_i32_6 : BitVec 32 := 0#32
  let c1_i32 : BitVec 32 := 1#32
  let arg13 : BitVec 32 := Scf.iv c0_i32_6 c1_i32 k0_t1
  let c8_i32 : BitVec 32 := 8#32
  let c0_i32_12 : BitVec 32 := 0#32
  let v16 : BitVec 1 := Scalar.cmpi .eq c8_i32 c0_i32_12
  let c1_i32_13 : BitVec 32 := 1#32
  let v17 : BitVec 32 := Scalar.select v16 c1_i32_13 c8_i32
  let v18 : BitVec 32 := Scalar.remsi arg13 v17
  let c0_i32_15 : BitVec 32 := 0#32
  let v20 : BitVec 1 := Scalar.cmpi .slt v18 c0_i32_15
  let c0_i32_16 : BitVec 32 := 0#32
  let v21 : BitVec 1 := Scalar.cmpi .slt v17 c0_i32_16
  let v22 : BitVec 1 := Scalar.xori v20 v21
  let c0_i32_14 : BitVec 32 := 0#32
  let v19 : BitVec 1 := Scalar.cmpi .ne v18 c0_i32_14
  let v23 : BitVec 1 := Scalar.andi v22 v19
  let v24 : BitVec 32 := Scalar.addi v18 v17
  let v25 : BitVec 32 := Scalar.select v23 v24 v18
  let v39 : Index := Scalar.indexCast v25
  let c0_21 : Index := 0#32
  let c0_22 : Index := 0#32
  ![v39.toNat, 0, 0]
def k0_mult11 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c64_i32_33 : BitVec 32 := 64#32
  let v71 : BitVec 32 := Scalar.muli arg13 c64_i32_33
  v71
def k0_mult12 (i : grid0.Coords) (k0_t1 : Fin k0_t1_loop.trips) : BitVec 32 :=
  let arg0 : BitVec 32 := BitVec.ofNat 32 (i 0).val
  let c1024_i32_34 : BitVec 32 := 1024#32
  let v73 : BitVec 32 := Scalar.muli arg0 c1024_i32_34
  let c0_i32_6 : BitVec 32 := 0#32
  let c1_i32 : BitVec 32 := 1#32
  let arg13 : BitVec 32 := Scf.iv c0_i32_6 c1_i32 k0_t1
  let c64_i32_35 : BitVec 32 := 64#32
  let v74 : BitVec 32 := Scalar.muli arg13 c64_i32_35
  let v75 : BitVec 32 := Scalar.addi v73 v74
  v75
def k0_off7 (k0_t1 : Fin k0_t1_loop.trips) : Fin 2 → Nat :=
  let c0_i32_6 : BitVec 32 := 0#32
  let c1_i32 : BitVec 32 := 1#32
  let arg13 : BitVec 32 := Scf.iv c0_i32_6 c1_i32 k0_t1
  let c64_i32_33 : BitVec 32 := 64#32
  let v71 : BitVec 32 := Scalar.muli arg13 c64_i32_33
  let v72 : BitVec 32 := v71
  let c0_i32_37 : BitVec 32 := 0#32
  ![v72.toNat, 0]
def k0_cond5 (k0_t1 : Fin k0_t1_loop.trips) : BitVec 1 :=
  let c0_i32_6 : BitVec 32 := 0#32
  let c1_i32 : BitVec 32 := 1#32
  let arg13 : BitVec 32 := Scf.iv c0_i32_6 c1_i32 k0_t1
  let c8_i32_38 : BitVec 32 := 8#32
  let v79 : BitVec 32 := Scalar.addi arg13 c8_i32_38
  let c16_i32_39 : BitVec 32 := 16#32
  let v80 : BitVec 1 := Scalar.cmpi .slt v79 c16_i32_39
  let v81 : BitVec 32 := Scalar.extui v80
  let c0_i32_40 : BitVec 32 := 0#32
  let v82 : BitVec 1 := Scalar.cmpi .ne v81 c0_i32_40
  v82

def k0_mult13 (i : grid0.Coords) (k0_t1 : Fin k0_t1_loop.trips) : BitVec 32 :=
  let arg0 : BitVec 32 := BitVec.ofNat 32 (i 0).val
  let c1024_i32_42 : BitVec 32 := 1024#32
  let v84 : BitVec 32 := Scalar.muli arg0 c1024_i32_42
  let c0_i32_6 : BitVec 32 := 0#32
  let c1_i32 : BitVec 32 := 1#32
  let arg13 : BitVec 32 := Scf.iv c0_i32_6 c1_i32 k0_t1
  let c8_i32_41 : BitVec 32 := 8#32
  let v83 : BitVec 32 := Scalar.addi arg13 c8_i32_41
  let c64_i32_43 : BitVec 32 := 64#32
  let v85 : BitVec 32 := Scalar.muli v83 c64_i32_43
  let v86 : BitVec 32 := Scalar.addi v84 v85
  v86
def k0_off8 (k0_t1 : Fin k0_t1_loop.trips) : Fin 1 → Nat :=
  let c0_i32_6 : BitVec 32 := 0#32
  let c1_i32 : BitVec 32 := 1#32
  let arg13 : BitVec 32 := Scf.iv c0_i32_6 c1_i32 k0_t1
  let c8_i32 : BitVec 32 := 8#32
  let c0_i32_12 : BitVec 32 := 0#32
  let v16 : BitVec 1 := Scalar.cmpi .eq c8_i32 c0_i32_12
  let c1_i32_13 : BitVec 32 := 1#32
  let v17 : BitVec 32 := Scalar.select v16 c1_i32_13 c8_i32
  let v18 : BitVec 32 := Scalar.remsi arg13 v17
  let c0_i32_15 : BitVec 32 := 0#32
  let v20 : BitVec 1 := Scalar.cmpi .slt v18 c0_i32_15
  let c0_i32_16 : BitVec 32 := 0#32
  let v21 : BitVec 1 := Scalar.cmpi .slt v17 c0_i32_16
  let v22 : BitVec 1 := Scalar.xori v20 v21
  let c0_i32_14 : BitVec 32 := 0#32
  let v19 : BitVec 1 := Scalar.cmpi .ne v18 c0_i32_14
  let v23 : BitVec 1 := Scalar.andi v22 v19
  let v24 : BitVec 32 := Scalar.addi v18 v17
  let v25 : BitVec 32 := Scalar.select v23 v24 v18
  ![v25.toNat]
def k0_off9 (k0_t1 : Fin k0_t1_loop.trips) : Fin 3 → Nat :=
  let c0_i32_6 : BitVec 32 := 0#32
  let c1_i32 : BitVec 32 := 1#32
  let arg13 : BitVec 32 := Scf.iv c0_i32_6 c1_i32 k0_t1
  let c8_i32 : BitVec 32 := 8#32
  let c0_i32_12 : BitVec 32 := 0#32
  let v16 : BitVec 1 := Scalar.cmpi .eq c8_i32 c0_i32_12
  let c1_i32_13 : BitVec 32 := 1#32
  let v17 : BitVec 32 := Scalar.select v16 c1_i32_13 c8_i32
  let v18 : BitVec 32 := Scalar.remsi arg13 v17
  let c0_i32_15 : BitVec 32 := 0#32
  let v20 : BitVec 1 := Scalar.cmpi .slt v18 c0_i32_15
  let c0_i32_16 : BitVec 32 := 0#32
  let v21 : BitVec 1 := Scalar.cmpi .slt v17 c0_i32_16
  let v22 : BitVec 1 := Scalar.xori v20 v21
  let c0_i32_14 : BitVec 32 := 0#32
  let v19 : BitVec 1 := Scalar.cmpi .ne v18 c0_i32_14
  let v23 : BitVec 1 := Scalar.andi v22 v19
  let v24 : BitVec 32 := Scalar.addi v18 v17
  let v25 : BitVec 32 := Scalar.select v23 v24 v18
  let c0_i32_44 : BitVec 32 := 0#32
  let c0_i32_45 : BitVec 32 := 0#32
  ![v25.toNat, 0, 0]
def k0_off10 (i : grid0.Coords) (k0_t1 : Fin k0_t1_loop.trips) : Fin 2 → Nat :=
  let arg0 : BitVec 32 := BitVec.ofNat 32 (i 0).val
  let c1024_i32_42 : BitVec 32 := 1024#32
  let v84 : BitVec 32 := Scalar.muli arg0 c1024_i32_42
  let c0_i32_6 : BitVec 32 := 0#32
  let c1_i32 : BitVec 32 := 1#32
  let arg13 : BitVec 32 := Scf.iv c0_i32_6 c1_i32 k0_t1
  let c8_i32_41 : BitVec 32 := 8#32
  let v83 : BitVec 32 := Scalar.addi arg13 c8_i32_41
  let c64_i32_43 : BitVec 32 := 64#32
  let v85 : BitVec 32 := Scalar.muli v83 c64_i32_43
  let v86 : BitVec 32 := Scalar.addi v84 v85
  let v87 : BitVec 32 := v86
  let c0_i32_46 : BitVec 32 := 0#32
  ![v87.toNat, 0]
@[reducible] def k0_t2_loop : Scf.Loop 32 :=
  let c0_i32_8 : BitVec 32 := 0#32
  let c16_i32_9 : BitVec 32 := 16#32
  let v15 : BitVec 32 := Scalar.addi c0_i32_8 c16_i32_9
  let c1_i32_10 : BitVec 32 := 1#32
  ⟨c0_i32_8, v15, c1_i32_10⟩
def k0_mult14 (k0_t2 : Fin k0_t2_loop.trips) : BitVec 32 :=
  let c0_i32_8 : BitVec 32 := 0#32
  let c1_i32_10 : BitVec 32 := 1#32
  let arg13 : BitVec 32 := Scf.iv c0_i32_8 c1_i32_10 k0_t2
  let c64_i32 : BitVec 32 := 64#32
  let v16 : BitVec 32 := Scalar.muli arg13 c64_i32
  v16
def k0_mult15 (i : grid0.Coords) (k0_t2 : Fin k0_t2_loop.trips) : BitVec 32 :=
  let arg0 : BitVec 32 := BitVec.ofNat 32 (i 0).val
  let c1024_i32 : BitVec 32 := 1024#32
  let v18 : BitVec 32 := Scalar.muli arg0 c1024_i32
  let c0_i32_8 : BitVec 32 := 0#32
  let c1_i32_10 : BitVec 32 := 1#32
  let arg13 : BitVec 32 := Scf.iv c0_i32_8 c1_i32_10 k0_t2
  let c64_i32_12 : BitVec 32 := 64#32
  let v19 : BitVec 32 := Scalar.muli arg13 c64_i32_12
  let v20 : BitVec 32 := Scalar.addi v18 v19
  v20
def k0_off11 (i : grid0.Coords) (k0_t2 : Fin k0_t2_loop.trips) : Fin 2 → Nat :=
  let arg0 : BitVec 32 := BitVec.ofNat 32 (i 0).val
  let c1024_i32 : BitVec 32 := 1024#32
  let v18 : BitVec 32 := Scalar.muli arg0 c1024_i32
  let c0_i32_8 : BitVec 32 := 0#32
  let c1_i32_10 : BitVec 32 := 1#32
  let arg13 : BitVec 32 := Scf.iv c0_i32_8 c1_i32_10 k0_t2
  let c64_i32_12 : BitVec 32 := 64#32
  let v19 : BitVec 32 := Scalar.muli arg13 c64_i32_12
  let v20 : BitVec 32 := Scalar.addi v18 v19
  let v21 : BitVec 32 := v20
  let c0_i32_13 : BitVec 32 := 0#32
  ![v21.toNat, 0]
def k0_off12 (k0_t2 : Fin k0_t2_loop.trips) : Fin 2 → Nat :=
  let c0_i32_8 : BitVec 32 := 0#32
  let c1_i32_10 : BitVec 32 := 1#32
  let arg13 : BitVec 32 := Scf.iv c0_i32_8 c1_i32_10 k0_t2
  let c64_i32 : BitVec 32 := 64#32
  let v16 : BitVec 32 := Scalar.muli arg13 c64_i32
  let v17 : BitVec 32 := v16
  let c0_i32_14 : BitVec 32 := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceOutIdeal.lean ====
abbrev S8192x4096 : Shape := ⟨2, ![8192, 4096]⟩
abbrev S32x8192x128 : Shape := ⟨3, ![32, 8192, 128]⟩
abbrev S1x8192x4096 : Shape := ⟨3, ![1, 8192, 4096]⟩
abbrev S4x2048x4096 : Shape := ⟨3, ![4, 2048, 4096]⟩
abbrev S1x4096 : Shape := ⟨2, ![1, 4096]⟩
abbrev S8192x32x128 : Shape := ⟨3, ![8192, 32, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S4096 : Shape := ⟨1, ![4096]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x8192x128, .f32⟩
  | .hbm, ⟨2, _⟩ => ⟨S1x8192x4096, .f32⟩
  | .hbm, ⟨3, _⟩ => ⟨S4x2048x4096, .f32⟩
  | .hbm, ⟨4, _⟩ => ⟨S1x4096, .f32⟩
  | .hbm, ⟨5, _⟩ => ⟨S1x4096, .f32⟩
  | .hbm, ⟨6, _⟩ => ⟨S8192x32x128, .f32⟩
  | .hbm, ⟨7, _⟩ => ⟨S8192x4096, .f32⟩
  | .hbm, ⟨8, _⟩ => ⟨S8192x4096, .f32⟩
  | .hbm, ⟨9, _⟩ => ⟨S8192x8192, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x4096, .f32⟩
  | .hbm, ⟨39, _⟩ => ⟨S8192x4096, .f32⟩
  | .hbm, ⟨40, _⟩ => ⟨S4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S4096, .f32⟩
  | .hbm, ⟨45, _⟩ => ⟨S1x4096, .f32⟩
  | .hbm, ⟨46, _⟩ => ⟨S8192x4096, .f32⟩
  | .hbm, ⟨47, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Proof.InProjLru.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.Proof.InProjLru

open Idealize.ShloMosaic Idealize.ShloMosaic.TcCoe Idealize.SL.Sem
open Cert.KernelIdeal Cert.KernelIdeal.Gen

/-- Row `p` of `x` times row `q` of `w`: one entry of the tile's product. -/
def rowDot (x : FVec Ideal S1024x4096 .bf16) (w : FVec Ideal S512x4096 .bf16) (p : Fin 1024) (q : Fin 512) : Ideal .f32 :=
  ∑ k : Fin 4096, x (ix2 p k) * w (ix2 q k)

theorem pay2_at (x : FVec Ideal S1024x4096 .bf16) (w : FVec Ideal S512x4096 .bf16) (p : Fin 1024) (q : Fin 512) :
    k0_pay2 (F := Ideal) x w (ix2 p q) = rowDot x w p q := by
  pointwise [k0_pay2]
  rfl

theorem tiles (x : FVec Ideal S1024x4096 .bf16) (w : FVec Ideal S512x4096 .bf16) (y : S4x1024x128.Idx) (q : Fin 512)
   (hq : q.val = 128 * (y 0).val + (y 2).val) :
    View.canon
      [(⟨Rect.unit ![3, 0, 0] ![1, 1024, 128] inb_S4x1024x128_S1x1024x128_3_0_0, k0_pay6 (F := Ideal) x w⟩ : View.Piece (Elt Ideal) S4x1024x128 .f32),
        ⟨Rect.unit ![2, 0, 0] ![1, 1024, 128] inb_S4x1024x128_S1x1024x128_2_0_0, k0_pay5 (F := Ideal) x w⟩,
        ⟨Rect.unit ![1, 0, 0] ![1, 1024, 128] inb_S4x1024x128_S1x1024x128_1_0_0, k0_pay4 (F := Ideal) x w⟩,
        ⟨Rect.unit ![0, 0, 0] ![1, 1024, 128] inb_S4x1024x128_S1x1024x128_0_0_0, k0_pay3 (F := Ideal) x w⟩]
      y = rowDot x w (y 1) q := by
  canon_tiles z h
  all_goals unfold rowDot; open_payloads; pointwise
  all_goals exact Finset.sum_congr rfl fun k _ => by congr 1 <;> blk_ext

theorem out_A (c : Dev nD) (i : grid0.Coords) (a2 : Memref sig .tc .vmem S1024x4096 .bf16) (h2 : a2.IsWhole)
    (a3 : Memref sig .tc .vmem S512x4096 .f32) (h3 : a3.IsWhole) (a4 : Memref sig .tc .vmem S4x1024x128 .f32) (h4 : a4.IsWhole)
    (a5 : Memref sig .tc .vmem S512x4096 .bf16) (h5 : a5.IsWhole) (hc : cond0_0 i)
    (x0 : Vec Ideal S1024x4096 .bf16) (x1 : Vec Ideal S512x4096 .f32) (y : S4x1024x128.Idx) (q : Fin 512)
    (hq : q.val = 128 * (y 0).val + (y 2).val) :
    out0_A_2 c i a2 h2 a3 h3 a4 h4 a5 h5 hc x0 x1 y = rowDot x0 (k0_pay1 x1) (y 1) q := by
  frame_out
  exact tiles _ _ y q hq
theorem out_B (c : Dev nD) (i : grid0.Coords) (a2 : Memref sig .tc .vmem S1024x4096 .bf16) (h2 : a2.IsWhole)
    (a3 : Memref sig .tc .vmem S512x4096 .f32) (h3 : a3.IsWhole) (a4 : Memref sig .tc .vmem S4x1024x128 .f32) (h4 : a4.IsWhole)
    (a5 : Memref sig .tc .vmem S512x4096 .bf16) (h5 : a5.IsWhole) (hc : ¬cond0_0 i)
    (x0 : Vec Ideal S1024x4096 .bf16) (x1 : Vec Ideal S512x4096 .f32) (xs : Vec Ideal S512x4096 .bf16) (y : S4x1024x128.Idx) (q : Fin 512)
    (hq : q.val = 128 * (y 0).val + (y 2).val) :
    out0_B_2 c i a2 h2 a3 h3 a4 h4 a5 h5 hc x0 x1 xs y = rowDot x0 xs (y 1) q := by
  frame_out
  exact tiles _ _ y q hq
theorem scr_A (c : Dev nD) (i : grid0.Coords) (a2 : Memref sig .tc .vmem S1024x4096 .bf16) (h2 : a2.IsWhole)
    (a3 : Memref sig .tc .vmem S512x4096 .f32) (h3 : a3.IsWhole) (a4 : Memref sig .tc .vmem S4x1024x128 .f32) (h4 : a4.IsWhole)
    (a5 : Memref sig .tc .vmem S512x4096 .bf16) (h5 : a5.IsWhole) (hc : cond0_0 i)
    (x0 : Vec Ideal S1024x4096 .bf16) (x1 : Vec Ideal S512x4096 .f32) :
    sout0_A_0 c i a2 h2 a3 h3 a4 h4 a5 h5 hc x0 x1 = k0_pay1 x1 := by
  frame_out

theorem scr_B (c : Dev nD) (i : grid0.Coords) (a2 : Memref sig .tc .vmem S1024x4096 .bf16) (h2 : a2.IsWhole)
    (a3 : Memref sig .tc .vmem S512x4096 .f32) (h3 : a3.IsWhole) (a4 : Memref sig .tc .vmem S4x1024x128 .f32) (h4 : a4.IsWhole)
    (a5 : Memref sig .tc .vmem S512x4096 .bf16) (h5 : a5.IsWhole) (hc : ¬cond0_0 i)
    (x0 : Vec Ideal S1024x4096 .bf16) (x1 : Vec Ideal S512x4096 .f32) (xs : Vec Ideal S512x4096 .bf16) :
    sout0_B_0 c i a2 h2 a3 h3 a4 h4 a5 h5 hc x0 x1 xs = xs := by
  unfold sout0_B_0
  rfl

variable {m : (ℓ : Loc nD τ sig) → Buf (Elt Ideal) ℓ}

/-- The rounded weight rows that block `g` of the grid's outer axis works on. -/
def rows (m : (ℓ : Loc nD τ sig) → Buf (Elt Ideal) ℓ) (c : Dev nD) (g : Fin 16) : FVec Ideal S512x4096 .bf16 := fun j =>
  V m c main_v3 (ix2 (⟨10304 + 512 * g.val + (j 0).val, by have := (j 0).isLt; have : (j 0).val < 512 := this; omega⟩ : Fin 18496) (j 1))

theorem idx : ∀ t : Fin cfg0.N, win0_0.index t = ![t.val % 8, 0] ∧ win0_1.index t = ![10304 + 512 * (t.val / 8), 0] ∧ win0_2.index t = ![t.val / 8, t.val % 8, 0] := by
  decide +kernel

theorem wblock (c : Dev nD) (t : Fin cfg0.N) (g : Fin 16) (hg : g.val = t.val / 8) : k0_pay1 (iblk m c 1 t) = rows m c g := by
  funext j
  pointwise [k0_pay1, rows]
  have e : ∀ a, (((cfg0.win 1).blk t).view.emb j a).val = win0_1.index t a + (j a).val := fun a =>
    Pipeline.Window.rect_emb_val_off ..
  blk_ext [iblk, e, idx t]

theorem scratch (c : Dev nD) (n : ℕ) : ∀ (hn : n < cfg0.N) (g : Fin 16) (_ : g.val = n / 8), (outsAt0 m c n hn).2 = rows m c g := by
  induction n with
  | zero =>
    intro hn g hg
    rw [outsAt0_A m c ⟨0, hn⟩ rfl]
    dsimp only
    rw [scr_A]
    exact wblock c ⟨0, hn⟩ g hg
  | succ n ih =>
    intro hn g hg
    by_cases h : (n + 1) % 8 = 0
    · rw [outsAt0_A m c ⟨n + 1, hn⟩ h]
      dsimp only
      rw [scr_A]
      exact wblock c ⟨n + 1, hn⟩ g hg
    · rw [outsAt0_B m c ⟨n + 1, hn⟩ h]
      dsimp only
      rw [scr_B]
      exact ih (by omega) g (by omega)

theorem stored (c : Dev nD) (t : Fin cfg0.N) (g : Fin 16) (hg : g.val = t.val / 8) (y : S4x1024x128.Idx) (q : Fin 512)
    (hq : q.val = 128 * (y 0).val + (y 2).val) :
    (outsAt0 m c t.val t.isLt).1 y = rowDot (iblk m c 0 t) (rows m c g) (y 1) q := by
  by_cases h : t.val % 8 = 0
  · rw [outsAt0_A m c t h]
    dsimp only
    rw [out_A (q := q) (hq := hq), wblock c t g hg]
  · rw [outsAt0_B m c t h]
    dsimp only
    rw [out_B (q := q) (hq := hq), scratch c (t.val - 1) _ g (by omega)]

theorem xblock (c : Dev nD) (t : Fin cfg0.N) (y : S4x1024x128.Idx) (r : Fin 8192) (hr : r.val = 1024 * (t.val % 8) + (y 1).val) (k : Fin 4096) :
    iblk m c 0 t (ix2 (y 1) k) = m (c.tc.loc main_arg0) (ix3 (⟨r.val / 2048, by omega⟩ : Fin 4) (⟨r.val % 2048, by omega⟩ : Fin 2048) k) := by
  obtain ⟨e0, e1, e2⟩ := idx t
  have e : iblk m c 0 t (ix2 (y 1) k) = V m c main_v1 (ix2 r k) := by blk_ext [iblk, e0]
  rw [e]
  entry_read
  pointwise

theorem final (c : Dev nD) : (dats m 0 c).arrAt 2 cfg0.N
    = ReferenceIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 128 := lt_of_lt_of_eq t.isLt N_0
  have hy0 : (y 0).val < 4 := (y 0).isLt
  have hy2 : (y 2).val < 128 := (y 2).isLt
  refine (stored c t ⟨t.val / 8, by omega⟩ rfl y ⟨128 * (y 0).val + (y 2).val, by omega⟩ rfl).trans ?_
  unfold rowDot rows
  generalize hz : (((cfg0.win 2).blk t).view.emb y) = z
  pointwise [ReferenceIdeal.Read.val_main_v5,ReferenceIdeal.Read.val_main_v4,ReferenceIdeal.Read.val_main_v3,ReferenceIdeal.Read.val_main_v2,ReferenceIdeal.Read.val_main_v1,ReferenceIdeal.Read.val_main_v0]
  have e : ∀ a, (z a).val = win0_2.index t a * S4x1024x128.size a + (y a).val := fun a =>
    hz ▸ Pipeline.Window.rect_emb_val ..
  obtain ⟨e0, e1, e2⟩ := idx t
  have z0 : (z 0).val = t.val / 8 * 4 + (y 0).val := (e 0).trans (by rw [e2]; rfl)
  have z1 : (z 1).val = t.val % 8 * 1024 + (y 1).val := (e 1).trans (by rw [e2]; rfl)
  have z2 : (z 2).val = 0 * 128 + (y 2).val := (e 2).trans (by rw [e2]; rfl)
  entry_read
  pointwise
  refine Finset.sum_congr rfl fun k _ => ?_
  rw [xblock c t y (z 1) (by omega) k]
  congr 1
  refine congrArg (m (c.tc.loc main_arg1)) (congrArg (ix3 0 k) (Fin.ext ?_))
  show 10304 + 512 * (t.val / 8) + (128 * (y 0).val + (y 2).val) = 10304 + ((z 0).val * 128 + (z 2).val)
  omega

/-- The call writes the LRU columns of the product of `x` and the rounded weights, in slabs of 128 lanes: what the
    reference's slice, reshape and transpose leave. -/
theorem value : algebraic_KernelIdeal_ReferenceIdeal (hKernelIdeal := KernelIdeal.Gen.facts) (hReferenceIdeal := ReferenceIdeal.Gen.facts) := by
  intro m g m' g' _ agree
  refine ⟨fun c => ReferenceIdeal.Read.val_main_v5 (F := Ideal) (m ((c : Thread nD τ).loc main_arg0)) (m ((c : Thread nD τ).loc main_arg1)), ?_, ?_⟩
  · exact (θ_run _ _ _).mono (fun r h c => ⟨(KernelIdeal.Value.post2 m r h c).trans (final c), KernelIdeal.Value.kept_main_arg0 m r h c, KernelIdeal.Value.kept_main_arg1 m r h c⟩) (run_main m g)
  · refine (θ_run _ _ _).mono (fun r h c => ⟨(h c).1.trans ?_, (h c).2⟩) (ReferenceIdeal.Value.run m' g')
    rw [(agree c).1, (agree c).2]
    rfl

end Cert.Proof.InProjLru
-- ==== Proof.InProj.lean ====
module

public import proofs.«01_k».proof.Defs
public import proofs.«01_k».proof.Proof.Gen.KernelAIdeal.Value
public import proofs.«01_k».proof.Proof.Gen.ReferenceAIdeal.Run
public import proofs.«01_k».proof.Proof.Gen.ReferenceAIdeal.Read
public import Idealize.ShloMosaic.Lib.Pipeline.ValueKit
public import Idealize.ShloMosaic.Lib.Pointwise

@[expose] public section

set_option maxRecDepth 16384

noncomputable section

namespace Cert.Proof.InProj

open Idealize.ShloMosaic Idealize.ShloMosaic.TcCoe Idealize.SL.Sem
open Cert.KernelAIdeal Cert.KernelAIdeal.Gen

variable {m : (ℓ : Loc nD τ sig) → Buf (Elt Ideal) ℓ}

/-- Where the three windows stand at point `t`: the row block turns fastest. -/
theorem idx : ∀ t : Fin cfg0.N, win0_0.index t = ![t.val % 8, 0] ∧ win0_1.index t = ![t.val / 8, 0] ∧ win0_2.index t = ![t.val % 8, t.val / 8] := by
  decide +kernel

theorem xblock (c : Dev nD) (t : Fin cfg0.N) (p : Fin 1024) (r : Fin 8192) (hr : r.val = 1024 * (t.val % 8) + p.val) (k : Fin 4096) :
    iblk m c 0 t (ix2 p k) = m (c.tc.loc main_arg0) (ix3 (⟨r.val / 2048, by omega⟩ : Fin 4) (⟨r.val % 2048, by omega⟩ : Fin 2048) k) := by
  obtain ⟨e0, e1, e2⟩ := idx t
  have e : iblk m c 0 t (ix2 p k) = V m c main_v1 (ix2 r k) := by blk_ext [iblk, e0]
  rw [e]
  entry_read
  pointwise

theorem wblock (c : Dev nD) (t : Fin cfg0.N) (p : Fin 1024) (q : Fin 18496) (hq : q.val = 1024 * (t.val / 8) + p.val) (k : Fin 4096) :
    iblk m c 1 t (ix2 p k) = m (c.tc.loc main_arg1) (ix3 0 k q) := by
  obtain ⟨e0, e1, e2⟩ := idx t
  have hN : t.val < 80 := lt_of_lt_of_eq t.isLt N_0
  have e : iblk m c 1 t (ix2 p k) = V m c main_v5 (ix2 (⟨q.val, by omega⟩ : Fin 10240) k) := by blk_ext [iblk, e1]
  rw [e]
  entry_read
  pointwise

/-- What the call leaves in its result: the first 10240 columns of the product. -/
theorem final (c : Dev nD) : (dats m 0 c).arrAt 2 cfg0.N
    = ReferenceAIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  generalize hz : (((cfg0.win 2).blk t).view.emb y) = z
  have hN : t.val < 80 := lt_of_lt_of_eq t.isLt N_0
  have e : ∀ a, (z a).val = win0_2.index t a * S1024x1024.size a + (y a).val := fun a =>
    hz ▸ Pipeline.Window.rect_emb_val ..
  obtain ⟨-, -, e2⟩ := idx t
  have z0 : (z 0).val = t.val % 8 * 1024 + (y 0).val := (e 0).trans (by rw [e2]; rfl)
  have z1 : (z 1).val = t.val / 8 * 1024 + (y 1).val := (e 1).trans (by rw [e2]; rfl)
  have hy1 : (y 1).val < 1024 := (y 1).isLt
  pointwise [k0_pay1, ReferenceAIdeal.Read.val_main_v3, ReferenceAIdeal.Read.val_main_v2, ReferenceAIdeal.Read.val_main_v1,
    ReferenceAIdeal.Read.val_main_v0]
  show @Eq (Ideal .f32) _ _
  refine Finset.sum_congr rfl fun k _ => ?_
  rw [xblock c t (y 0) (z 0) (by omega) k, wblock c t (y 1) ⟨(z 1).val, by omega⟩ (by show (z 1).val = _; omega) k]

/-- The call writes the z, x, B and C columns of the product of `x` and the weights: the reference's slice. -/
theorem value : algebraic_KernelAIdeal_ReferenceAIdeal (hKernelAIdeal := KernelAIdeal.Gen.facts) (hReferenceAIdeal := ReferenceAIdeal.Gen.facts) := by
  intro m g m' g' _ agree
  refine ⟨fun c => ReferenceAIdeal.Read.val_main_v3 (F := Ideal) (m ((c : Thread nD τ).loc main_arg0)) (m ((c : Thread nD τ).loc main_arg1)), ?_, ?_⟩
  · exact (θ_run _ _ _).mono (fun r h c => ⟨(KernelAIdeal.Value.post2 m r h c).trans (final c), KernelAIdeal.Value.kept_main_arg0 m r h c,
      KernelAIdeal.Value.kept_main_arg1 m r h c⟩) (run_main m g)
  · refine (θ_run _ _ _).mono (fun r h c => ⟨(h c).1.trans ?_, (h c).2⟩) (ReferenceAIdeal.Value.run m' g')
    rw [(agree c).1, (agree c).2]
    rfl

end Cert.Proof.InProj
-- ==== Proof.XcastDt.lean ====
module

public import proofs.«01_k».proof.Defs
public import proofs.«01_k».proof.Proof.Gen.KernelDtIdeal.Frame
public import proofs.«01_k».proof.Proof.Gen.ReferenceDtIdeal.Run
public import proofs.«01_k».proof.Proof.Gen.ReferenceDtIdeal.Read
public import Idealize.ShloMosaic.Lib.Pipeline.ValueKit
public import Idealize.ShloMosaic.Lib.Pointwise

@[expose] public section

set_option maxRecDepth 16384

noncomputable section

namespace Cert.Proof.XcastDt

open Idealize.ShloMosaic Idealize.ShloMosaic.TcCoe Idealize.SL.Sem
open Cert.KernelDtIdeal Cert.KernelDtIdeal.Gen

section body

variable (c : Dev nD) (i : grid0.Coords) (a1 : Memref sig .tc .vmem S512x4096 .f32) (h1 : a1.IsWhole)
  (a2 : Memref sig .tc .vmem S128x4096 .f32) (h2 : a2.IsWhole) (a3 : Memref sig .tc .vmem S512x4096 .bf16) (h3 : a3.IsWhole)
  (a4 : Memref sig .tc .vmem S512x128 .f32) (h4 : a4.IsWhole) (a5 : Memref sig .tc .vmem S4096x128 .bf16) (h5 : a5.IsWhole)
  (x0 : Vec Ideal S512x4096 .f32) (x1 : Vec Ideal S128x4096 .f32) (xs : Vec Ideal S4096x128 .bf16)

theorem cast_A (hc : cond0_0 i) : out0_A_2 c i a1 h1 a2 h2 a3 h3 a4 h4 a5 h5 hc x0 x1 = k0_pay2 x0 := by
  frame_out
theorem dt_A (hc : cond0_0 i) : out0_A_3 c i a1 h1 a2 h2 a3 h3 a4 h4 a5 h5 hc x0 x1 = k0_pay3 x0 (k0_pay1 x1) := by
  frame_out
theorem staged_A (hc : cond0_0 i) : sout0_A_0 c i a1 h1 a2 h2 a3 h3 a4 h4 a5 h5 hc x0 x1 = k0_pay1 x1 := by
  frame_out
theorem cast_B (hc : ¬cond0_0 i) : out0_B_2 c i a1 h1 a2 h2 a3 h3 a4 h4 a5 h5 hc x0 x1 xs = k0_pay2 x0 := by
  frame_out
theorem dt_B (hc : ¬cond0_0 i) : out0_B_3 c i a1 h1 a2 h2 a3 h3 a4 h4 a5 h5 hc x0 x1 xs = k0_pay3 x0 xs := by
  frame_out
theorem staged_B (hc : ¬cond0_0 i) : sout0_B_0 c i a1 h1 a2 h2 a3 h3 a4 h4 a5 h5 hc x0 x1 xs = xs := by
  unfold sout0_B_0
  rfl

end body

variable {m : (ℓ : Loc nD τ sig) → Buf (Elt Ideal) ℓ}

/-- Where the windows stand at point `t`; the weight window's one place, row 10240, is an element offset. -/
theorem idx : ∀ t : Fin cfg0.N, win0_0.index t = ![t.val, 0] ∧ win0_1.index t = ![10240, 0] ∧ win0_2.index t = ![t.val, 0]
    ∧ win0_3.index t = ![t.val, 0] := by
  decide +kernel

theorem xblock (c : Dev nD) (t : Fin cfg0.N) (p : Fin 512) (r : Fin 8192) (hr : r.val = 512 * t.val + p.val) (k : Fin 4096) :
    iblk m c 0 t (ix2 p k) = m (c.tc.loc main_arg0) (ix3 (⟨r.val / 2048, by omega⟩ : Fin 4) (⟨r.val % 2048, by omega⟩ : Fin 2048) k) := by
  obtain ⟨e0, e1, e2⟩ := idx t
  have e : iblk m c 0 t (ix2 p k) = V m c main_v0 (ix2 r k) := by blk_ext [iblk, e0]
  rw [e]
  entry_read
  pointwise

/-- The rounded and transposed weight rows 10240 to 10367. -/
def cols (m : (ℓ : Loc nD τ sig) → Buf (Elt Ideal) ℓ) (c : Dev nD) : FVec Ideal S4096x128 .bf16 := fun j =>
  m (c.tc.loc main_arg1) (ix3 0 (j 0) (⟨10240 + (j 1).val, by have : (j 1).val < 128 := (j 1).isLt; omega⟩ : Fin 18496))

theorem wblock (c : Dev nD) (t : Fin cfg0.N) : k0_pay1 (iblk m c 1 t) = cols m c := by
  funext j
  pointwise [k0_pay1, cols]
  obtain ⟨e0, e1, e2⟩ := idx t
  have e : ∀ i a, (((cfg0.win 1).blk t).view.emb i a).val = win0_1.index t a + (i a).val := fun i a =>
    Pipeline.Window.rect_emb_val_off ..
  have e : iblk m c 1 t (ix2 (j 1) (j 0)) = V m c main_v2 (ix2 (⟨10240 + (j 1).val, by have : (j 1).val < 128 := (j 1).isLt; omega⟩ : Fin 18496) (j 0)) := by
    blk_ext [iblk, e, e1]
  rw [e]
  entry_read
  pointwise

theorem staged (c : Dev nD) (n : ℕ) : ∀ (hn : n < cfg0.N), (outsAt0 m c n hn).2.2 = cols m c := by
  induction n with
  | zero =>
    intro hn
    rw [outsAt0_A m c ⟨0, hn⟩ rfl]
    dsimp only
    rw [staged_A]
    exact wblock c ⟨0, hn⟩
  | succ n ih =>
    intro hn
    have hN : n + 1 < 16 := lt_of_lt_of_eq hn N_0
    rw [outsAt0_B m c ⟨n + 1, hn⟩ (by show ¬(n + 1) % 16 = 0; omega)]
    dsimp only
    rw [staged_B]
    exact ih (by omega)

theorem cast_at (c : Dev nD) (t : Fin cfg0.N) : (outsAt0 m c t.val t.isLt).1 = k0_pay2 (iblk m c 0 t) := by
  by_cases h : t.val % 16 = 0
  · rw [outsAt0_A m c t h]
    dsimp only
    rw [cast_A]
  · rw [outsAt0_B m c t h]
    dsimp only
    rw [cast_B]

theorem dt_at (c : Dev nD) (t : Fin cfg0.N) : (outsAt0 m c t.val t.isLt).2.1 = k0_pay3 (iblk m c 0 t) (cols m c) := by
  by_cases h : t.val % 16 = 0
  · rw [outsAt0_A m c t h]
    dsimp only
    rw [dt_A, wblock]
  · rw [outsAt0_B m c t h]
    dsimp only
    rw [dt_B, staged]

theorem final_cast (c : Dev nD) : (dats m 0 c).arrAt 2 cfg0.N
    = ReferenceDtIdeal.Read.val_main_v4 (F := Ideal) (m ((c : Thread nD τ).loc main_arg0)) := by
  refine (dats m 0 c).arrAt_eq_of_covers 2 _ (by decide +kernel) fun t hf y => ?_
  blk_simp
  rw [after0_2, cast_at]
  generalize hz : (((cfg0.win 2).blk t).view.emb y) = z
  have e : ∀ a, (z a).val = win0_2.index t a * S512x4096.size a + (y a).val := fun a =>
    hz ▸ Pipeline.Window.rect_emb_val ..
  obtain ⟨-, -, e2, -⟩ := idx t
  have z0 : (z 0).val = t.val * 512 + (y 0).val := (e 0).trans (by rw [e2]; rfl)
  have z1 : (z 1).val = 0 * 4096 + (y 1).val := (e 1).trans (by rw [e2]; rfl)
  pointwise [k0_pay2, ReferenceDtIdeal.Read.val_main_v4, ReferenceDtIdeal.Read.val_main_v3, ReferenceDtIdeal.Read.val_main_v0]
  have hk : (z 1 : Fin 4096) = (y 1 : Fin 4096) := Fin.ext (by omega)
  exact ((congrArg (iblk m c 0 t) (eq_ix2 y)).trans (xblock c t (y 0) (z 0) (by omega) (y 1))).trans
    (congrArg (fun k : Fin 4096 => m (c.tc.loc main_arg0) (ix3 _ _ k)) hk.symm)

theorem final_dt (c : Dev nD) : (dats m 0 c).arrAt 3 cfg0.N
    = ReferenceDtIdeal.Read.val_main_v5 (F := Ideal) (m ((c : Thread nD τ).loc main_arg0)) (m ((c : Thread nD τ).loc main_arg1)) := by
  refine (dats m 0 c).arrAt_eq_of_covers 3 _ (by decide +kernel) fun t hf y => ?_
  blk_simp
  rw [after0_3, dt_at]
  generalize hz : (((cfg0.win 3).blk t).view.emb y) = z
  have e : ∀ a, (z a).val = win0_3.index t a * S512x128.size a + (y a).val := fun a =>
    hz ▸ Pipeline.Window.rect_emb_val ..
  obtain ⟨-, -, -, e2⟩ := idx t
  have z0 : (z 0).val = t.val * 512 + (y 0).val := (e 0).trans (by rw [e2]; rfl)
  have z1 : (z 1).val = 0 * 128 + (y 1).val := (e 1).trans (by rw [e2]; rfl)
  have hz1 : (z 1).val < 128 := (z 1).isLt
  pointwise [k0_pay3, k0_pay2, cols, ReferenceDtIdeal.Read.val_main_v5, ReferenceDtIdeal.Read.val_main_v2, ReferenceDtIdeal.Read.val_main_v1,
    ReferenceDtIdeal.Read.val_main_v0]
  show @Eq (Ideal .f32) _ _
  refine Finset.sum_congr rfl fun k _ => ?_
  rw [xblock c t (y 0) (z 0) (by omega) k]
  have hq : (⟨10240 + (y 1).val, by omega⟩ : Fin 18496) = ⟨10240 + (z 1).val, by omega⟩ := Fin.ext (by show 10240 + (y 1).val = 10240 + (z 1).val; omega)
  rw [hq]

/-- The call writes `x` rounded to bfloat16 and the columns 10240 to 10367 of the product, the step sizes among them. -/
theorem value : algebraic_KernelDtIdeal_ReferenceDtIdeal (hKernelDtIdeal := KernelDtIdeal.Gen.facts) (hReferenceDtIdeal := ReferenceDtIdeal.Gen.facts) := by
  intro m g m' g' _ agree
  refine ⟨fun c => ReferenceDtIdeal.Read.val_main_v4 (F := Ideal) (m ((c : Thread nD τ).loc main_arg0)),
    fun c => ReferenceDtIdeal.Read.val_main_v5 (F := Ideal) (m ((c : Thread nD τ).loc main_arg0)) (m ((c : Thread nD τ).loc main_arg1)), ?_, ?_⟩
  · refine (θ_run _ _ _).mono (fun r h c => ⟨((h c).1 2).trans (final_cast c), ((h c).1 3).trans (final_dt c), ?_, ?_⟩) (run_main m g)
    · exact ((h c).2 main_arg0 (Pipeline.mem_restRefs_of main_arg0 (by decide) (by decide))).trans (V_main_arg0 m c)
    · exact ((h c).2 main_arg1 (Pipeline.mem_restRefs_of main_arg1 (by decide) (by decide))).trans (V_main_arg1 m c)
  · refine (θ_run _ _ _).mono (fun r h c => ⟨(h c).1.trans ?_, (h c).2.1.trans ?_, (h c).2.2⟩) (ReferenceDtIdeal.Value.run m' g')
    · rw [(agree c).1]
      rfl
    · rw [(agree c).1, (agree c).2]
      rfl

end Cert.Proof.XcastDt
-- ==== Proof.OutNames.lean ====
/-
  The output projection with LayerNorm: names of the pieces of its buffers. The residual stream and the result are
  128 blocks of 64 rows, the accumulator 16 blocks of 64 rows, the ring 8 slots of 64 rows with one cell each. Row
  tile `i` of the grid has blocks `16 i` to `16 i + 15`.
-/
module

public import proofs.«01_k».proof.Proof.Gen.KernelOutIdeal.Frame
public import proofs.«01_k».proof.Proof.Gen.KernelOutIdeal.Loops
public import Idealize.ShloMosaic.Lib.Batch
public import Idealize.ShloMosaic.Lib.Ring
public import Idealize.ShloMosaic.Lib.Tactic

@[expose] public section

set_option maxRecDepth 16384

noncomputable section

namespace Cert.KernelOutIdeal.Out

open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Cert.KernelOutIdeal.Gen

variable {F : FTy → Type} [FloatOps F]

/-! ## Blocks, slots, cells -/

/-- The residual stream, the result, the accumulator, the ring: whole. -/
abbrev xM : Memref sig .tc .hbm S8192x4096 .f32 := Memref.whole main_v0
abbrev oM : Memref sig .tc .hbm S8192x4096 .f32 := Memref.whole main_v3
abbrev aM : Memref sig .tc .vmem S1024x4096 .f32 := Memref.whole cc0_scratch0
abbrev rM : Memref sig .tc .vmem S8x64x4096 .f32 := Memref.whole cc0_scratch1

abbrev rowOff (b : Fin 128) : Fin 2 → Nat := ![64 * b.val, 0]
theorem rowOff_inb (b : Fin 128) : ∀ a, rowOff b a + S64x4096.size a ≤ S8192x4096.size a := by
  have := b.isLt; intro a; fin_cases a
  · show 64 * b.val + 64 ≤ 8192; omega
  · show 0 + 4096 ≤ 4096; omega
abbrev accOff (j : Fin 16) : Fin 2 → Nat := ![64 * j.val, 0]
theorem accOff_inb (j : Fin 16) : ∀ a, accOff j a + S64x4096.size a ≤ S1024x4096.size a := by
  have := j.isLt; intro a; fin_cases a
  · show 64 * j.val + 64 ≤ 1024; omega
  · show 0 + 4096 ≤ 4096; omega
abbrev slotOff (s : Fin 8) : Fin 3 → Nat := ![s.val, 0, 0]
theorem slotOff_inb (s : Fin 8) : ∀ a, slotOff s a + S1x64x4096.size a ≤ S8x64x4096.size a := by
  have := s.isLt; intro a; fin_cases a
  · show s.val + 1 ≤ 8; omega
  · show 0 + 64 ≤ 64; omega
  · show 0 + 4096 ≤ 4096; omega
abbrev cellOff (s : Fin 8) : Fin 1 → Nat := ![s.val]
theorem cellOff_inb (s : Fin 8) : ∀ a, cellOff s a + S1.size a ≤ S8.size a := by
  have := s.isLt; intro a; fin_cases a; show s.val + 1 ≤ 8; omega

/-- Block `b` of the residual stream, -/
def xBlk (b : Fin 128) : Memref sig .tc .hbm S64x4096 .f32 :=
  xM.slice (Rect.unit (s := S8192x4096) (rowOff b) S64x4096.size (rowOff_inb b)) (fun _ => rfl)
/-- block `b` of the result, -/
def oBlk (b : Fin 128) : Memref sig .tc .hbm S64x4096 .f32 :=
  oM.slice (Rect.unit (s := S8192x4096) (rowOff b) S64x4096.size (rowOff_inb b)) (fun _ => rfl)
/-- block `j` of the accumulator, -/
def aBlk (j : Fin 16) : Memref sig .tc .vmem S64x4096 .f32 :=
  aM.slice (Rect.unit (s := S1024x4096) (accOff j) S64x4096.size (accOff_inb j)) (fun _ => rfl)
/-- slot `s` of the ring, -/
def rslot (s : Fin 8) : Memref sig .tc .vmem S64x4096 .f32 :=
  (rM.slice (Rect.unit (s := S8x64x4096) (slotOff s) S1x64x4096.size (slotOff_inb s)) (fun _ => rfl)).squeeze S64x4096 squeezes_S1x64x4096_S64x4096
/-- slot `s`'s cell. -/
def csm (s : Fin 8) : DmaSems sig S_ := (cc0_scratch2.slice (Rect.unit (s := S8) (cellOff s) S1.size (cellOff_inb s))).squeeze S_ squeezes_S1_S_

instance (b : Fin 128) : ClosedOff (rowOff b) := ⟨rowOff b, rfl⟩
instance (j : Fin 16) : ClosedOff (accOff j) := ⟨accOff j, rfl⟩
instance (s : Fin 8) : ClosedOff (slotOff s) := ⟨slotOff s, rfl⟩

/-! ## The printed offsets in closed form -/

theorem trips1 : k0_t1_loop.trips = 16 := by decide
theorem trips2 : k0_t2_loop.trips = 16 := by decide

/-- Block `p` of the 128, of the 16; slot `p`. -/
abbrev bk (p : ℕ) : Fin 128 := Fin.ofNat 128 p
abbrev ak (p : ℕ) : Fin 16 := Fin.ofNat 16 p
abbrev sl (p : ℕ) : Fin 8 := Fin.ofNat 8 p
/-- The block of trip `k` at row tile `i`. -/
abbrev pb (i : grid0.Coords) (k : ℕ) : ℕ := 16 * (i 0).val + k

theorem off1_0 : ∀ i : grid0.Coords, k0_off1 i 0#32 = rowOff (bk (pb i 0)) := by decide +kernel
theorem off1_1 : ∀ i : grid0.Coords, k0_off1 i 64#32 = rowOff (bk (pb i 1)) := by decide +kernel
theorem off1_2 : ∀ i : grid0.Coords, k0_off1 i 128#32 = rowOff (bk (pb i 2)) := by decide +kernel
theorem off1_3 : ∀ i : grid0.Coords, k0_off1 i 192#32 = rowOff (bk (pb i 3)) := by decide +kernel
theorem off1_4 : ∀ i : grid0.Coords, k0_off1 i 256#32 = rowOff (bk (pb i 4)) := by decide +kernel
theorem off1_5 : ∀ i : grid0.Coords, k0_off1 i 320#32 = rowOff (bk (pb i 5)) := by decide +kernel
theorem off1_6 : ∀ i : grid0.Coords, k0_off1 i 384#32 = rowOff (bk (pb i 6)) := by decide +kernel
theorem off1_7 : ∀ i : grid0.Coords, k0_off1 i 448#32 = rowOff (bk (pb i 7)) := by decide +kernel
theorem off2_eq : ∀ k : Fin k0_t1_loop.trips, k0_off2 k = cellOff (sl k.val) := by decide +kernel
theorem off3_eq : ∀ k : Fin k0_t1_loop.trips, k0_off3 k = slotOff (sl k.val) := by decide +kernel
theorem off4_eq : ∀ (i : grid0.Coords) (k : Fin k0_t1_loop.trips), k0_off4 i k = rowOff (bk (pb i k.val)) := by decide +kernel
theorem off5_eq : ∀ k : Fin k0_t1_loop.trips, k0_off5 k = accOff (ak k.val) := by decide +kernel
theorem off6_eq : ∀ k : Fin k0_t1_loop.trips, k0_off6 k = slotOff (sl k.val) := by decide +kernel
theorem off7_eq : ∀ k : Fin k0_t1_loop.trips, k0_off7 k = accOff (ak k.val) := by decide +kernel
theorem off8_eq : ∀ k : Fin k0_t1_loop.trips, k0_off8 k = cellOff (sl k.val) := by decide +kernel
theorem off9_eq : ∀ k : Fin k0_t1_loop.trips, k0_off9 k = slotOff (sl k.val) := by decide +kernel
theorem off10_eq : ∀ (i : grid0.Coords) (k : Fin k0_t1_loop.trips), pb i k.val + 8 < 128 → k0_off10 i k = rowOff (bk (pb i k.val + 8)) := by decide +kernel
theorem off10_lt : ∀ (i : grid0.Coords) (k : Fin k0_t1_loop.trips), k0_off10 i k 0 + 64 ≤ 8192 → pb i k.val + 8 < 128 := by decide +kernel
theorem off11_eq : ∀ (i : grid0.Coords) (k : Fin k0_t2_loop.trips), k0_off11 i k = rowOff (bk (pb i k.val)) := by decide +kernel
theorem off12_eq : ∀ k : Fin k0_t2_loop.trips, k0_off12 k = accOff (ak k.val) := by decide +kernel
theorem cond5_pos : ∀ k : Fin k0_t1_loop.trips, k.val + 8 < 16 → k0_cond5 k = 1#1 := by decide +kernel
theorem cond5_neg : ∀ k : Fin k0_t1_loop.trips, ¬ k.val + 8 < 16 → ¬ k0_cond5 k = 1#1 := by decide +kernel

instance (k : Fin k0_t1_loop.trips) : ClosedOff (k0_off5 k) := ⟨accOff (ak k.val), off5_eq k⟩
instance (k : Fin k0_t1_loop.trips) : ClosedOff (k0_off6 k) := ⟨slotOff (sl k.val), off6_eq k⟩

private theorem csm_congr {off : Fin 1 → Nat} {s : Fin 8} (e : off = cellOff s) (hh) :
    (cc0_scratch2.slice (Rect.unit (s := S8) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 8} (e : off = slotOff s) (hh hs) :
    (rM.slice (Rect.unit (s := S8x64x4096) off S1x64x4096.size hh) hs).squeeze S64x4096 squeezes_S1x64x4096_S64x4096 = rslot s :=
  congrArg (fun M : Memref sig .tc .vmem S1x64x4096 .f32 => M.squeeze S64x4096 squeezes_S1x64x4096_S64x4096) (Memref.slice_unit_congr _ e _ _ _ _)
private theorem xBlk_congr {off : Fin 2 → Nat} {b : Fin 128} (e : off = rowOff b) (hh hs) :
    xM.slice (Rect.unit (s := S8192x4096) off S64x4096.size hh) hs = xBlk b := by
  subst e; rfl
private theorem oBlk_congr {off : Fin 2 → Nat} {b : Fin 128} (e : off = rowOff b) (hh hs) :
    oM.slice (Rect.unit (s := S8192x4096) off S64x4096.size hh) hs = oBlk b := by
  subst e; rfl
private theorem aBlk_congr {off : Fin 2 → Nat} {j : Fin 16} (e : off = accOff j) (hh hs) :
    aM.slice (Rect.unit (s := S1024x4096) off S64x4096.size hh) hs = aBlk j := by
  subst e; rfl

@[sl_canon] theorem semL0 (hh) : (cc0_scratch2.slice (Rect.unit (s := S8) ![0] S1.size hh)).squeeze S_ squeezes_S1_S_ = csm 0 := csm_congr (by decide) _
@[sl_canon] theorem semL1 (hh) : (cc0_scratch2.slice (Rect.unit (s := S8) ![1] S1.size hh)).squeeze S_ squeezes_S1_S_ = csm 1 := csm_congr (by decide) _
@[sl_canon] theorem semL2 (hh) : (cc0_scratch2.slice (Rect.unit (s := S8) ![2] S1.size hh)).squeeze S_ squeezes_S1_S_ = csm 2 := csm_congr (by decide) _
@[sl_canon] theorem semL3 (hh) : (cc0_scratch2.slice (Rect.unit (s := S8) ![3] S1.size hh)).squeeze S_ squeezes_S1_S_ = csm 3 := csm_congr (by decide) _
@[sl_canon] theorem semL4 (hh) : (cc0_scratch2.slice (Rect.unit (s := S8) ![4] S1.size hh)).squeeze S_ squeezes_S1_S_ = csm 4 := csm_congr (by decide) _
@[sl_canon] theorem semL5 (hh) : (cc0_scratch2.slice (Rect.unit (s := S8) ![5] S1.size hh)).squeeze S_ squeezes_S1_S_ = csm 5 := csm_congr (by decide) _
@[sl_canon] theorem semL6 (hh) : (cc0_scratch2.slice (Rect.unit (s := S8) ![6] S1.size hh)).squeeze S_ squeezes_S1_S_ = csm 6 := csm_congr (by decide) _
@[sl_canon] theorem semL7 (hh) : (cc0_scratch2.slice (Rect.unit (s := S8) ![7] S1.size hh)).squeeze S_ squeezes_S1_S_ = csm 7 := csm_congr (by decide) _
@[sl_canon] theorem slotL0 (hh hs) : (rM.slice (Rect.unit (s := S8x64x4096) ![0, 0, 0] S1x64x4096.size hh) hs).squeeze S64x4096 squeezes_S1x64x4096_S64x4096 = rslot 0 := rslot_congr (by decide) _ _
@[sl_canon] theorem slotL1 (hh hs) : (rM.slice (Rect.unit (s := S8x64x4096) ![1, 0, 0] S1x64x4096.size hh) hs).squeeze S64x4096 squeezes_S1x64x4096_S64x4096 = rslot 1 := rslot_congr (by decide) _ _
@[sl_canon] theorem slotL2 (hh hs) : (rM.slice (Rect.unit (s := S8x64x4096) ![2, 0, 0] S1x64x4096.size hh) hs).squeeze S64x4096 squeezes_S1x64x4096_S64x4096 = rslot 2 := rslot_congr (by decide) _ _
@[sl_canon] theorem slotL3 (hh hs) : (rM.slice (Rect.unit (s := S8x64x4096) ![3, 0, 0] S1x64x4096.size hh) hs).squeeze S64x4096 squeezes_S1x64x4096_S64x4096 = rslot 3 := rslot_congr (by decide) _ _
@[sl_canon] theorem slotL4 (hh hs) : (rM.slice (Rect.unit (s := S8x64x4096) ![4, 0, 0] S1x64x4096.size hh) hs).squeeze S64x4096 squeezes_S1x64x4096_S64x4096 = rslot 4 := rslot_congr (by decide) _ _
@[sl_canon] theorem slotL5 (hh hs) : (rM.slice (Rect.unit (s := S8x64x4096) ![5, 0, 0] S1x64x4096.size hh) hs).squeeze S64x4096 squeezes_S1x64x4096_S64x4096 = rslot 5 := rslot_congr (by decide) _ _
@[sl_canon] theorem slotL6 (hh hs) : (rM.slice (Rect.unit (s := S8x64x4096) ![6, 0, 0] S1x64x4096.size hh) hs).squeeze S64x4096 squeezes_S1x64x4096_S64x4096 = rslot 6 := rslot_congr (by decide) _ _
@[sl_canon] theorem slotL7 (hh hs) : (rM.slice (Rect.unit (s := S8x64x4096) ![7, 0, 0] S1x64x4096.size hh) hs).squeeze S64x4096 squeezes_S1x64x4096_S64x4096 = rslot 7 := rslot_congr (by decide) _ _
section
variable (i : grid0.Coords)
@[sl_canon] theorem xL0 (hh hs) : xM.slice (Rect.unit (s := S8192x4096) (k0_off1 i 0#32) S64x4096.size hh) hs = xBlk (bk (pb i 0)) := xBlk_congr (off1_0 i) _ _
@[sl_canon] theorem xL1 (hh hs) : xM.slice (Rect.unit (s := S8192x4096) (k0_off1 i 64#32) S64x4096.size hh) hs = xBlk (bk (pb i 1)) := xBlk_congr (off1_1 i) _ _
@[sl_canon] theorem xL2 (hh hs) : xM.slice (Rect.unit (s := S8192x4096) (k0_off1 i 128#32) S64x4096.size hh) hs = xBlk (bk (pb i 2)) := xBlk_congr (off1_2 i) _ _
@[sl_canon] theorem xL3 (hh hs) : xM.slice (Rect.unit (s := S8192x4096) (k0_off1 i 192#32) S64x4096.size hh) hs = xBlk (bk (pb i 3)) := xBlk_congr (off1_3 i) _ _
@[sl_canon] theorem xL4 (hh hs) : xM.slice (Rect.unit (s := S8192x4096) (k0_off1 i 256#32) S64x4096.size hh) hs = xBlk (bk (pb i 4)) := xBlk_congr (off1_4 i) _ _
@[sl_canon] theorem xL5 (hh hs) : xM.slice (Rect.unit (s := S8192x4096) (k0_off1 i 320#32) S64x4096.size hh) hs = xBlk (bk (pb i 5)) := xBlk_congr (off1_5 i) _ _
@[sl_canon] theorem xL6 (hh hs) : xM.slice (Rect.unit (s := S8192x4096) (k0_off1 i 384#32) S64x4096.size hh) hs = xBlk (bk (pb i 6)) := xBlk_congr (off1_6 i) _ _
@[sl_canon] theorem xL7 (hh hs) : xM.slice (Rect.unit (s := S8192x4096) (k0_off1 i 448#32) S64x4096.size hh) hs = xBlk (bk (pb i 7)) := xBlk_congr (off1_7 i) _ _
variable (k : Fin k0_t1_loop.trips)
@[sl_canon] theorem semW (hh) : (cc0_scratch2.slice (Rect.unit (s := S8) (k0_off2 k) S1.size hh)).squeeze S_ squeezes_S1_S_ = csm (sl k.val) := csm_congr (off2_eq k) _
@[sl_canon] theorem slotW (hh hs) : (rM.slice (Rect.unit (s := S8x64x4096) (k0_off3 k) S1x64x4096.size hh) hs).squeeze S64x4096 squeezes_S1x64x4096_S64x4096 = rslot (sl k.val) := rslot_congr (off3_eq k) _ _
@[sl_canon] theorem xW (hh hs) : xM.slice (Rect.unit (s := S8192x4096) (k0_off4 i k) S64x4096.size hh) hs = xBlk (bk (pb i k.val)) := xBlk_congr (off4_eq i k) _ _
@[sl_canon] theorem oW (hh hs) : oM.slice (Rect.unit (s := S8192x4096) (k0_off4 i k) S64x4096.size hh) hs = oBlk (bk (pb i k.val)) := oBlk_congr (off4_eq i k) _ _
@[sl_canon] theorem aW (hh hs) : aM.slice (Rect.unit (s := S1024x4096) (k0_off7 k) S64x4096.size hh) hs = aBlk (ak k.val) := aBlk_congr (off7_eq k) _ _
@[sl_canon] theorem semI (hh) : (cc0_scratch2.slice (Rect.unit (s := S8) (k0_off8 k) S1.size hh)).squeeze S_ squeezes_S1_S_ = csm (sl k.val) := csm_congr (off8_eq k) _
@[sl_canon] theorem slotI (hh hs) : (rM.slice (Rect.unit (s := S8x64x4096) (k0_off9 k) S1x64x4096.size hh) hs).squeeze S64x4096 squeezes_S1x64x4096_S64x4096 = rslot (sl k.val) := rslot_congr (off9_eq k) _ _
@[sl_canon] theorem xI (hh hs) : xM.slice (Rect.unit (s := S8192x4096) (k0_off10 i k) S64x4096.size hh) hs = xBlk (bk (pb i k.val + 8)) := xBlk_congr (off10_eq i k (off10_lt i k (hh 0))) _ _
end
section
variable (i : grid0.Coords) (k : Fin k0_t2_loop.trips)
@[sl_canon] theorem oD (hh hs) : oM.slice (Rect.unit (s := S8192x4096) (k0_off11 i k) S64x4096.size hh) hs = oBlk (bk (pb i k.val)) := oBlk_congr (off11_eq i k) _ _
@[sl_canon] theorem aD (hh hs) : aM.slice (Rect.unit (s := S1024x4096) (k0_off12 k) S64x4096.size hh) hs = aBlk (ak k.val) := aBlk_congr (off12_eq k) _ _
end

/-! ## Element sets of the pieces -/

/-- Rows `64 b` to `64 b + 63` of 8192, of 1024; plane `s` of the ring. -/
abbrev rowSet (b : Fin 128) : Finset S8192x4096.Idx := (Rect.unit (s := S8192x4096) (rowOff b) S64x4096.size (rowOff_inb b)).set
abbrev accSet (j : Fin 16) : Finset S1024x4096.Idx := (Rect.unit (s := S1024x4096) (accOff j) S64x4096.size (accOff_inb j)).set
abbrev slotSet (s : Fin 8) : Finset S8x64x4096.Idx := (Rect.unit (s := S8x64x4096) (slotOff s) S1x64x4096.size (slotOff_inb s)).set

theorem xBlk_set (b : Fin 128) : (xBlk b).view.set = rowSet b := by unfold xBlk; exact View.set_slice_whole _ _
theorem oBlk_set (b : Fin 128) : (oBlk b).view.set = rowSet b := by unfold oBlk; exact View.set_slice_whole _ _
theorem aBlk_set (j : Fin 16) : (aBlk j).view.set = accSet j := by unfold aBlk; exact View.set_slice_whole _ _
theorem rslot_set (s : Fin 8) : (rslot s).view.set = slotSet s := by unfold rslot; exact (View.set_reshape _ _).trans (View.set_slice_whole _ _)

theorem mem_rowSet (b : Fin 128) (y : S8192x4096.Idx) : y ∈ rowSet b ↔ (y 0).val / 64 = b.val := by
  rw [Rect.mem_set_unit]
  have h1 : (y 1).val < 4096 := (y 1).isLt
  constructor
  · intro H; have a0 : 64 * b.val ≤ (y 0).val ∧ (y 0).val < 64 * b.val + 64 := H 0; omega
  · intro H a; fin_cases a
    · show 64 * b.val ≤ (y 0).val ∧ (y 0).val < 64 * b.val + 64; omega
    · show 0 ≤ (y 1).val ∧ (y 1).val < 0 + 4096; omega
theorem mem_accSet (j : Fin 16) (y : S1024x4096.Idx) : y ∈ accSet j ↔ (y 0).val / 64 = j.val := by
  rw [Rect.mem_set_unit]
  have h1 : (y 1).val < 4096 := (y 1).isLt
  constructor
  · intro H; have a0 : 64 * j.val ≤ (y 0).val ∧ (y 0).val < 64 * j.val + 64 := H 0; omega
  · intro H a; fin_cases a
    · show 64 * j.val ≤ (y 0).val ∧ (y 0).val < 64 * j.val + 64; omega
    · show 0 ≤ (y 1).val ∧ (y 1).val < 0 + 4096; omega
theorem mem_slotSet (s : Fin 8) (y : S8x64x4096.Idx) : y ∈ slotSet s ↔ (y 0).val = s.val := by
  rw [Rect.mem_set_unit]
  have h1 : (y 1).val < 64 := (y 1).isLt
  have h2 : (y 2).val < 4096 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 64; omega
    · show 0 ≤ (y 2).val ∧ (y 2).val < 0 + 4096; omega

theorem rowSet_disjoint : ∀ b b' : Fin 128, b ≠ b' → Disjoint (rowSet b) (rowSet b') := fun b b' hne => by
  rw [Finset.disjoint_left]; intro y hy hy'; rw [mem_rowSet] at hy hy'; exact hne (Fin.ext (by omega))
theorem rowSet_cover : Finset.univ.biUnion rowSet = Finset.univ := by
  ext y; simp only [Finset.mem_biUnion, Finset.mem_univ, true_and, iff_true]
  have h : (y 0).val < 8192 := (y 0).isLt
  exact ⟨⟨(y 0).val / 64, by omega⟩, (mem_rowSet _ _).mpr rfl⟩
theorem accSet_disjoint : ∀ b b' : Fin 16, b ≠ b' → Disjoint (accSet b) (accSet b') := fun b b' hne => by
  rw [Finset.disjoint_left]; intro y hy hy'; rw [mem_accSet] at hy hy'; exact hne (Fin.ext (by omega))
theorem accSet_cover : Finset.univ.biUnion accSet = Finset.univ := by
  ext y; simp only [Finset.mem_biUnion, Finset.mem_univ, true_and, iff_true]
  have h : (y 0).val < 1024 := (y 0).isLt
  exact ⟨⟨(y 0).val / 64, by omega⟩, (mem_accSet _ _).mpr rfl⟩
theorem slotSet_disjoint : ∀ b b' : Fin 8, b ≠ b' → Disjoint (slotSet b) (slotSet b') := fun b b' hne => by
  rw [Finset.disjoint_left]; intro y hy hy'; rw [mem_slotSet] at hy hy'; exact hne (Fin.ext (by omega))
theorem slotSet_cover : Finset.univ.biUnion slotSet = Finset.univ := by
  ext y; simp only [Finset.mem_biUnion, Finset.mem_univ, true_and, iff_true]; exact ⟨y 0, (mem_slotSet _ _).mpr rfl⟩

/-- The residual blocks NOT on their way to the ring while `lo ≤ b < hi` are. -/
def homeS (lo hi : ℕ) : Finset (Fin 128) := Finset.univ.filter fun b => ¬ (lo ≤ b.val ∧ b.val < hi)
theorem mem_homeS (lo hi : ℕ) (b : Fin 128) : b ∈ homeS lo hi ↔ ¬ (lo ≤ b.val ∧ b.val < hi) := by
  simp only [homeS, Finset.mem_filter, Finset.mem_univ, true_and]
theorem homeS_self (lo : ℕ) : homeS lo lo = Finset.univ := by
  ext b; rw [mem_homeS]; simp only [Finset.mem_univ, iff_true]; omega

theorem bk_val {p : ℕ} (h : p < 128) : (bk p).val = p := Nat.mod_eq_of_lt h
theorem ak_val {p : ℕ} (h : p < 16) : (ak p).val = p := Nat.mod_eq_of_lt h

section Sep
local notation "𝕄" => MT nD τ sig Unit (Elt F) ℕ (Pipeline.UD sig nD τ) ℕ

/-- A block goes out, -/
theorem home_take (Φ : Fin 128 → sProp 𝕄) {lo hi : ℕ} (h : lo ≤ hi) (hhi : hi < 128) :
    bigSep (homeS lo hi) Φ = iprop(Φ (bk hi) ∗ bigSep (homeS lo (hi + 1)) Φ) := by
  have e : homeS lo hi = insert (bk hi) (homeS lo (hi + 1)) := by
    ext b; rw [Finset.mem_insert, mem_homeS, mem_homeS, Fin.ext_iff, bk_val hhi]; omega
  have hn : bk hi ∉ homeS lo (hi + 1) := by rw [mem_homeS, bk_val hhi]; omega
  rw [e, bigSep_insert hn]; rfl
/-- and one comes back. -/
theorem home_give (Φ : Fin 128 → sProp 𝕄) {lo hi : ℕ} (h : lo < hi) (hlo : lo < 128) :
    bigSep (homeS (lo + 1) hi) Φ = iprop(Φ (bk lo) ∗ bigSep (homeS lo hi) Φ) := by
  have e : homeS (lo + 1) hi = insert (bk lo) (homeS lo hi) := by
    ext b; rw [Finset.mem_insert, mem_homeS, mem_homeS, Fin.ext_iff, bk_val hlo]; omega
  have hn : bk lo ∉ homeS lo hi := by rw [mem_homeS, bk_val hlo]; omega
  rw [e, bigSep_insert hn]; rfl

theorem rows_head (Φ : Fin 128 → sProp 𝕄) {lo hi : ℕ} (h : lo < hi) (hlo : lo < 128) :
    bigSep (Ring.rangeSet 128 lo hi) Φ = iprop(Φ (bk lo) ∗ bigSep (Ring.rangeSet 128 (lo + 1) hi) Φ) := by
  rw [Ring.bigSep_rangeSet_head h hlo, show (⟨lo, hlo⟩ : Fin 128) = bk lo from Fin.ext (bk_val hlo).symm]
theorem accs_head (Ψ : Fin 16 → sProp 𝕄) {lo hi : ℕ} (h : lo < hi) (hlo : lo < 16) :
    bigSep (Ring.rangeSet 16 lo hi) Ψ = iprop(Ψ (ak lo) ∗ bigSep (Ring.rangeSet 16 (lo + 1) hi) Ψ) := by
  rw [Ring.bigSep_rangeSet_head h hlo, show (⟨lo, hlo⟩ : Fin 16) = ak lo from Fin.ext (ak_val hlo).symm]
end Sep

end Cert.KernelOutIdeal.Out

end
-- ==== Proof.OutTrip.lean ====
module

public import proofs.«01_k».proof.Proof.OutNames
public import Idealize.ShloMosaic.Lib.Batch
public import Idealize.ShloMosaic.Lib.Pipeline.Value
public import Idealize.ShloMosaic.Lib.ValueLayout
public import Idealize.SL.BI.Lift

@[expose] public section

set_option maxRecDepth 16384
set_option backward.isDefEq.respectTransparency.types false

noncomputable section

namespace Cert.KernelOutIdeal.Out

open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Cert.KernelOutIdeal.Gen Idealize.ShloMosaic.ValueIdx

variable {F : FTy → Type} [FloatOps F]

local notation "𝕄" => MT nD τ sig Unit (Elt F) ℕ (Pipeline.UD sig nD τ) ℕ
local notation "EC" => countersEmb (U := Pipeline.UD sig nD τ)

variable (c : Dev nD)

/-! ## What is held -/

/-- Block `b` of the residual stream at `X`; -/
abbrev homeP (X : Buf (Elt F) (xM.view.loc (c : Thread nD τ))) (b : Fin 128) : sProp 𝕄 :=
  (xBlk b).view.loc (c : Thread nD τ) ↦[(xBlk b).view.set]{fullShare} X
/-- block `b` of the result at `R`; -/
abbrev resP (R : Buf (Elt F) (oM.view.loc (c : Thread nD τ))) (b : Fin 128) : sProp 𝕄 :=
  (oBlk b).view.loc (c : Thread nD τ) ↦[(oBlk b).view.set]{fullShare} R
/-- block `j` of the accumulator at `A`; -/
abbrev accP (A : Buf (Elt F) (aM.view.loc (c : Thread nD τ))) (j : Fin 16) : sProp 𝕄 :=
  (aBlk j).view.loc (c : Thread nD τ) ↦[(aBlk j).view.set]{fullShare} A
/-- slot `s`; its cell at zero. -/
abbrev slotP (s : Fin 8) (f : Buf (Elt F) ((rslot s).view.loc (c : Thread nD τ))) : sProp 𝕄 :=
  (rslot s).view.loc (c : Thread nD τ) ↦[(rslot s).view.set]{fullShare} f
abbrev cellP (s : Fin 8) : sProp 𝕄 := semVal ((c : Thread nD τ), SemLoc.dma (csm s).sem) 0
/-- What block `b`'s transfer leaves in slot `s`. -/
abbrev landed (X : Buf (Elt F) (xM.view.loc (c : Thread nD τ))) (s : Fin 8) (b : Fin 128) (f : Buf (Elt F) ((rslot s).view.loc (c : Thread nD τ))) :
    Buf (Elt F) ((rslot s).view.loc (c : Thread nD τ)) :=
  (rslot s).view.writes (Elt F) f [⟨Rect.whole S64x4096, ReadAs.same.apply ((xBlk b).view.read (Elt F) X)⟩]
/-- A row of the scale or the shift. -/
abbrev rowP (r : Memref sig .tc .vmem S1x4096 .f32) (g : Buf (Elt F) (r.view.loc (c : Thread nD τ))) : sProp 𝕄 :=
  r.view.loc (c : Thread nD τ) ↦[r.view.set]{fullShare} g
/-- Slot `s` with block `b` on its way. -/
abbrev flightP (X : Buf (Elt F) (xM.view.loc (c : Thread nD τ))) (s : Fin 8) (b : Fin 128) (f : Buf (Elt F) ((rslot s).view.loc (c : Thread nD τ))) : sProp 𝕄 :=
  Transfers.Flight EC (c : Thread nD τ) (SemLoc.dma (csm s).sem) () 32768 iprop(slotP c s (landed c X s b f) ∗ homeP c X b)

variable (X : Buf (Elt F) (xM.view.loc (c : Thread nD τ))) (A : Buf (Elt F) (aM.view.loc (c : Thread nD τ)))
  (R : Buf (Elt F) (oM.view.loc (c : Thread nD τ)))
  (i : grid0.Coords) (h4 : k0_cond4 i = 1#1)
  (arg2 : Memref sig .tc .vmem S1024x1024 .bf16) (harg2 : arg2.IsWhole) (arg3 : Memref sig .tc .vmem S8x1024x128 .f32) (harg3 : arg3.IsWhole)
  (arg4 : Memref sig .tc .vmem S1024x4096 .bf16) (harg4 : arg4.IsWhole)
  (arg6 : Memref sig .tc .vmem S1x4096 .f32) (harg6 : arg6.IsWhole) (arg7 : Memref sig .tc .vmem S1x4096 .f32) (harg7 : arg7.IsWhole)

abbrev tripG (k : Fin k0_t1_loop.trips) : Prog (TpuEff nD τ sig (Elt F) Λ₀ .tc) Unit :=
  k0_t1_body (F := F) i arg2 harg2 arg3 harg3 arg4 harg4 xM (Memref.isWhole_whole _) arg6 harg6 arg7 harg7 oM (Memref.isWhole_whole _)
    aM (Memref.isWhole_whole _) rM (Memref.isWhole_whole _) cc0_scratch2 cc0_scratch3 (BitVec.ofNat 32 (i 0).val) h4 k ()

theorem slot_amount (s : Fin 8) : (rslot s).view.dmaCredit = 32768 := rfl

/-- A block as one plane; -/
def asPlane (x : Vec F S64x4096 .f32) : Vec F S1x64x4096 .f32 := fun z => x (ix2 (z 1) (z 2))
/-- what the LayerNorm stage makes of an accumulator block, a residual block, the scale and the shift. -/
def outW (a x : Vec F S64x4096 .f32) (g b : Vec F S1x4096 .f32) : Vec F S64x4096 .f32 :=
  k0_pay10 (k0_pay30 a (asPlane x)) (k0_pay31 a (asPlane x)) (Scalar.ofBits .f32 0x45800000#32) g b

/-- The plane a slot holds, read through the ring, is the slot's block. -/
theorem plane_read (s : Fin 8) {off : Fin 3 → Nat} (e : off = slotOff s) (hh) (f : BufTy.Contents (Elt F) rM.view.ty) :
    rM.view.readAt (Elt F) (Rect.unit (s := S8x64x4096) off S1x64x4096.size hh).toLoadRect f = asPlane ((rslot s).view.read (Elt F) f) := by
  subst e
  funext z
  unfold asPlane rslot
  rw [Memref.read_squeeze_slice (hc := shapeCasts_S1x64x4096_S64x4096)]
  refine (congrArg _ ?_).trans (shapeCast_1ab_ab_apply _ _ (z 1) (z 2)).symm
  funext a
  fin_cases a
  · exact Fin.ext (by have : (z 0).val < 1 := (z 0).isLt; show (z 0).val = 0; omega)
  · rfl
  · rfl
/-- A block stored through the accumulator reads back. -/
theorem stored_read (j : Fin 16) {off : Fin 2 → Nat} (e : off = accOff j) (hh) (A : aM.view.ty.Contents (Elt F)) (w : Vec F S64x4096 .f32) :
    (aBlk j).view.read (Elt F) (View.write (Elt F) (aM.access (Rect.unit (s := S1024x4096) off S64x4096.size hh)) A w Finset.univ) = w := by
  subst e; exact View.read_write_univ _ _
theorem block_read (j : Fin 16) {off : Fin 2 → Nat} (e : off = accOff j) (hh) (A : aM.view.ty.Contents (Elt F)) :
    aM.view.readAt (Elt F) (Rect.unit (s := S1024x4096) off S64x4096.size hh).toLoadRect A = (aBlk j).view.read (Elt F) A := by
  subst e; rfl

theorem pts_eq {sp : Space} {s : Shape} {e : EltTy} (M : Memref sig .tc sp s e) (f g : Buf (Elt F) (M.view.loc (c : Thread nD τ)))
    (h : M.view.read (Elt F) f = M.view.read (Elt F) g) :
    (M.view.loc (c : Thread nD τ) ↦[M.view.set]{fullShare} f : sProp 𝕄) = M.view.loc (c : Thread nD τ) ↦[M.view.set]{fullShare} g :=
  pointsTo_congr fun i hi => by
    obtain ⟨x, -, rfl⟩ := Finset.mem_map.mp hi
    have := congrFun h x
    rw [View.read_apply, View.read_apply] at this
    exact (cast_bijective _).1 this

/-- The accumulator block after its LayerNorm: what a trip stores there. -/
theorem acc_done (k : Fin k0_t1_loop.trips) (b : Fin 128) (hh hh6) (f : Buf (Elt F) (rM.view.loc (c : Thread nD τ)))
    (hf : (rslot (sl k.val)).view.read (Elt F) f = (xBlk b).view.read (Elt F) X) (g b' : Vec F S1x4096 .f32) :
    accP c (View.write (Elt F) (aM.access (Rect.unit (s := S1024x4096) (k0_off5 k) S64x4096.size hh)) A
      (k0_pay10 (k0_pay30 (aM.view.readAt (Elt F) (Rect.unit (s := S1024x4096) (k0_off5 k) S64x4096.size hh).toLoadRect A)
          (rM.view.readAt (Elt F) (Rect.unit (s := S8x64x4096) (k0_off6 k) S1x64x4096.size hh6).toLoadRect f))
        (k0_pay31 (aM.view.readAt (Elt F) (Rect.unit (s := S1024x4096) (k0_off5 k) S64x4096.size hh).toLoadRect A)
          (rM.view.readAt (Elt F) (Rect.unit (s := S8x64x4096) (k0_off6 k) S1x64x4096.size hh6).toLoadRect f))
        (Scalar.ofBits .f32 0x45800000#32) g b') Finset.univ) (ak k.val)
    ⊢ iprop(∃ A' : Buf (Elt F) (aM.view.loc (c : Thread nD τ)),
      ⌜(aBlk (ak k.val)).view.read (Elt F) A' = outW ((aBlk (ak k.val)).view.read (Elt F) A) ((xBlk b).view.read (Elt F) X) g b'⌝ ∗ accP c A' (ak k.val)) := by
  iintro H
  iexists _
  isplitr [H]
  rotate_left
  · iexact H
  · ipureintro
    refine (stored_read _ (off5_eq k) _ _ _).trans ?_
    rw [plane_read _ (off6_eq k), block_read _ (off5_eq k), hf]; rfl
/-- A slot filled again, over what it held. -/
theorem flight_again (s : Fin 8) (b : Fin 128) (L : List (View.Piece (Elt F) S64x4096 .f32)) :
    (Transfers.Flight EC (c : Thread nD τ) (SemLoc.dma (csm s).sem) default 32768
      iprop(slotP c s ((rslot s).view.writes (Elt F) (rslot s).view.junk (⟨Rect.whole S64x4096, ReadAs.same.apply ((xBlk b).view.read (Elt F) X)⟩ :: L)) ∗ homeP c X b) : sProp 𝕄)
    ⊢ iprop(∃ f, flightP c X s b f) := by
  iintro H
  iexists ((rslot s).view.writes (Elt F) (rslot s).view.junk L)
  iexact H

/-! ## The result's transfers: one batch of 16 -/

variable (G : Buf (Elt F) (oM.view.loc (c : Thread nD τ)))

instance resP_st (R : Buf (Elt F) (oM.view.loc (c : Thread nD τ))) (b : Fin 128) : BI.Storable (upEmb : UEmb _ 𝕄) (resP c R b) := by infer_instance
instance accP_st (A : Buf (Elt F) (aM.view.loc (c : Thread nD τ))) (b : Fin 16) : BI.Storable (upEmb : UEmb _ 𝕄) (accP c A b) := by infer_instance

/-- Transfer `j` of row tile `i`: the result's block at its final contents, the accumulator's block back. -/
def outD (j : Fin 16) : sProp 𝕄 := iprop(resP c G (bk (pb i j.val)) ∗ ∃ A' : Buf (Elt F) (aM.view.loc (c : Thread nD τ)), accP c A' (ak j.val))
instance outD_storable (j : Fin 16) : BI.Storable (upEmb : UEmb _ 𝕄) (outD c i G j) := by unfold outD; infer_instance
abbrev outB (j u : ℕ) : sProp 𝕄 := Transfers.Batch EC (c : Thread nD τ) (.dma cc0_scratch3.sem) () 32768 (outD c i G) j u

/-! ## The loop over the 16 blocks -/

/-- The slot of block `p` of the row tile: the block on its way, or (past the last) free. -/
def role (p : ℕ) : sProp 𝕄 :=
  if p < 16 then iprop(∃ f, flightP c X (sl p) (bk (pb i p)) f) else iprop((∃ f, slotP c (sl p) f) ∗ cellP c (sl p))
/-- What is held before trip `k`. -/
def resAt (g6 : Buf (Elt F) (arg6.view.loc (c : Thread nD τ))) (g7 : Buf (Elt F) (arg7.view.loc (c : Thread nD τ))) (k : ℕ) : sProp 𝕄 :=
  iprop(rowP c arg6 g6 ∗ rowP c arg7 g7 ∗ (∃ W, owes (c : Thread nD τ) 0 W)
    ∗ bigSep (homeS (pb i k) (min (pb i k + 8) (pb i 16))) (homeP c X)
    ∗ bigSep (Ring.rangeSet 16 k 16) (accP c A) ∗ bigSep (Ring.rangeSet 128 (pb i k) (pb i 16)) (resP c R) ∗ outB c i G k 0
    ∗ role c X i k ∗ role c X i (k + 1) ∗ role c X i (k + 2) ∗ role c X i (k + 3) ∗ role c X i (k + 4) ∗ role c X i (k + 5) ∗ role c X i (k + 6) ∗ role c X i (k + 7))

/-- The scale and shift rows as the trip loads them. -/
abbrev rowR (r : Memref sig .tc .vmem S1x4096 .f32) (g : Buf (Elt F) (r.view.loc (c : Thread nD τ))) : Vec F S1x4096 .f32 :=
  View.readAt (Elt F) r.view (Rect.unit (s := S1x4096) ![0, 0] S1x4096.size inb_S1x4096_S1x4096_0_0).toLoadRect g

theorem amount_out (b : Fin 128) (sm : DmaSem sig) : (oBlk b).view.amount (SemLoc.dma sm) = 32768 := rfl

/-- What a transfer delivers is what is claimed of it. -/
theorem deliver (g6 : Buf (Elt F) (arg6.view.loc (c : Thread nD τ))) (g7 : Buf (Elt F) (arg7.view.loc (c : Thread nD τ)))
    (hG : ∀ j : ℕ, j < 16 → (oBlk (bk (pb i j))).view.read (Elt F) G
      = outW ((aBlk (ak j)).view.read (Elt F) A) ((xBlk (bk (pb i j))).view.read (Elt F) X) (rowR c arg6 g6) (rowR c arg7 g7))
    (k : Fin k0_t1_loop.trips) (hk : k.val < 16) :
    ∀ (R' : Buf (Elt F) (oM.view.loc (c : Thread nD τ))) (A' : Buf (Elt F) (aM.view.loc (c : Thread nD τ))),
      (aBlk (ak k.val)).view.read (Elt F) A' = outW ((aBlk (ak k.val)).view.read (Elt F) A) ((xBlk (bk (pb i k.val))).view.read (Elt F) X) (rowR c arg6 g6) (rowR c arg7 g7) →
      iprop(((oBlk (bk (pb i k.val))).view.loc (c : Thread nD τ) ↦[(oBlk (bk (pb i k.val))).view.set]{fullShare}
          ((oBlk (bk (pb i k.val))).view.write (Elt F) R' (ReadAs.same.apply ((aBlk (ak k.val)).view.read (Elt F) A')) Finset.univ))
        ∗ ((aBlk (ak k.val)).view.loc (c : Thread nD τ) ↦[(aBlk (ak k.val)).view.set]{fullShare} A')) ⊢ outD (F := F) c i G ⟨k.val, hk⟩ := by
    intro R' A' h
    unfold outD
    rw [pts_eq c (oBlk (bk (pb i k.val))) _ G (by exact (View.read_write_univ (v := (oBlk (bk (pb i k.val))).view) (Val := Elt F) _ _).trans (h.trans (hG _ hk).symm))]
    iintro ⟨H, HA⟩
    isplitl [H]; · iexact H
    iexists A'; iexact HA

/-- A trip before the last eight: the slot is filled again. -/
theorem trip_on (g6 : Buf (Elt F) (arg6.view.loc (c : Thread nD τ))) (g7 : Buf (Elt F) (arg7.view.loc (c : Thread nD τ)))
    (hG : ∀ j : ℕ, j < 16 → (oBlk (bk (pb i j))).view.read (Elt F) G
      = outW ((aBlk (ak j)).view.read (Elt F) A) ((xBlk (bk (pb i j))).view.read (Elt F) X) (rowR c arg6 g6) (rowR c arg7 g7))
    (k : Fin k0_t1_loop.trips) (h8 : k.val + 8 < 16) :
    resAt c X A R i arg6 arg7 G g6 g7 k.val
    ⊢ wp frame (wpE (defs₀ (F := F)) Variants.none (c : Thread nD τ) none) Set.univ (tripG i h4 arg2 harg2 arg3 harg3 arg4 harg4 arg6 harg6 arg7 harg7 k)
      (fun _ => resAt c X A R i arg6 arg7 G g6 g7 (k.val + 1)) := by
  have hk : k.val < 16 := trips1 ▸ k.isLt
  have hi : (i 0).val < 8 := (i 0).isLt
  have hsl : sl (k.val + 8) = sl k.val := Fin.ext (by show (k.val + 8) % 8 = k.val % 8; omega)
  have hD := deliver c X A i arg6 arg7 G g6 g7 hG k hk
  unfold resAt
  rw [rows_head (F := F) (Φ := resP c R) (by show 16 * (i 0).val + k.val < 16 * (i 0).val + 16; omega) (by show 16 * (i 0).val + k.val < 128; omega),
    accs_head (F := F) (Ψ := accP c A) hk hk]
  have hc5 := cond5_pos k h8
  rw [show min (pb i k.val + 8) (pb i 16) = pb i k.val + 8 from Nat.min_eq_left (by show 16 * (i 0).val + k.val + 8 ≤ 16 * (i 0).val + 16; omega),
    show min (pb i (k.val + 1) + 8) (pb i 16) = pb i k.val + 8 + 1 from (Nat.min_eq_left (by show 16 * (i 0).val + (k.val + 1) + 8 ≤ 16 * (i 0).val + 16; omega)).trans (by show 16 * (i 0).val + (k.val + 1) + 8 = 16 * (i 0).val + k.val + 8 + 1; omega),
    show pb i (k.val + 1) = pb i k.val + 1 from rfl,
    home_take (F := F) (homeP c X) (Nat.le_add_right _ _) (by show 16 * (i 0).val + k.val + 8 < 128; omega),
    home_give (F := F) (homeP c X) (by omega) (by show 16 * (i 0).val + k.val < 128; omega)]
  have e0 : role c X i k.val = iprop(∃ f, flightP c X (sl k.val) (bk (pb i k.val)) f) := if_pos hk
  have e8 : role c X i (k.val + 1 + 7) = iprop(∃ f, flightP c X (sl k.val) (bk (pb i k.val + 8)) f) := by
    rw [show k.val + 1 + 7 = k.val + 8 from rfl]; unfold role; rw [if_pos h8, hsl]; rfl
  rw [e0, e8]
  iintro ⟨H6, H7, ⟨%W, HW⟩, ⟨HX, Hrest⟩, ⟨HA, HAs⟩, ⟨HR, HRs⟩, HB, ⟨%f0, HF⟩, K1, K2, K3, K4, K5, K6, K7⟩
  dsimp only [tripG]
  sl_unfold [k0_t1_body]
  sl_exec
  delta trip_on.sl.HA_w1 trip_on.sl.r trip_on.sl.r_1 trip_on.sl.cst_26 trip_on.sl.v40
  ihave HA' := (acc_done c X A k (bk (pb i k.val)) _ _ _ (View.read_writes_whole _ _ _) _ _) $$ HA
  icases HA' with ⟨%A', %hA', HA⟩
  iapply (Transfers.wp_dmaBatch EC Variants.none (c : Thread nD τ) none (src := aBlk (ak k.val)) (dst := oBlk (bk (pb i k.val))) () 32768 rfl subset_rfl
    (D := outD c i G) (j := k.val) (u := 0) hk (Nat.zero_le _) (hD _ _ hA')) $$ [HA HR HB]
  · isplitl [HA]; · iexact HA
    isplitl [HR]; · iexact HR
    iexact HB
  iintro HB
  sl_exec
  sl_step
  isplitl [H6]; · iexact H6
  isplitl [H7]; · iexact H7
  isplitl [HW]; · iexists _; iexact HW
  isplitl [HF_src Hrest]
  · isplitl [HF_src]; · iexact HF_src
    iexact Hrest
  isplitl [HAs]; · iexact HAs
  isplitl [HRs]; · iexact HRs
  isplitl [HB]; · iexact HB
  isplitl [K1]; · iexact K1
  isplitl [K2]; · iexact K2
  isplitl [K3]; · iexact K3
  isplitl [K4]; · iexact K4
  isplitl [K5]; · iexact K5
  isplitl [K6]; · iexact K6
  isplitl [K7]; · iexact K7
  delta trip_on.sl.dma0
  iapply (flight_again c X _ _ _) $$ HF

/-- One of the last eight: the slot stays free. -/
theorem trip_off (g6 : Buf (Elt F) (arg6.view.loc (c : Thread nD τ))) (g7 : Buf (Elt F) (arg7.view.loc (c : Thread nD τ)))
    (hG : ∀ j : ℕ, j < 16 → (oBlk (bk (pb i j))).view.read (Elt F) G
      = outW ((aBlk (ak j)).view.read (Elt F) A) ((xBlk (bk (pb i j))).view.read (Elt F) X) (rowR c arg6 g6) (rowR c arg7 g7))
    (k : Fin k0_t1_loop.trips) (h8 : ¬ k.val + 8 < 16) :
    resAt c X A R i arg6 arg7 G g6 g7 k.val
    ⊢ wp frame (wpE (defs₀ (F := F)) Variants.none (c : Thread nD τ) none) Set.univ (tripG i h4 arg2 harg2 arg3 harg3 arg4 harg4 arg6 harg6 arg7 harg7 k)
      (fun _ => resAt c X A R i arg6 arg7 G g6 g7 (k.val + 1)) := by
  have hk : k.val < 16 := trips1 ▸ k.isLt
  have hi : (i 0).val < 8 := (i 0).isLt
  have hsl : sl (k.val + 8) = sl k.val := Fin.ext (by show (k.val + 8) % 8 = k.val % 8; omega)
  have hD := deliver c X A i arg6 arg7 G g6 g7 hG k hk
  unfold resAt
  rw [rows_head (F := F) (Φ := resP c R) (by show 16 * (i 0).val + k.val < 16 * (i 0).val + 16; omega) (by show 16 * (i 0).val + k.val < 128; omega),
    accs_head (F := F) (Ψ := accP c A) hk hk]
  have hc5 := cond5_neg k h8
  rw [show min (pb i k.val + 8) (pb i 16) = pb i 16 from Nat.min_eq_right (by show 16 * (i 0).val + 16 ≤ 16 * (i 0).val + k.val + 8; omega),
    show min (pb i (k.val + 1) + 8) (pb i 16) = pb i 16 from Nat.min_eq_right (by show 16 * (i 0).val + 16 ≤ 16 * (i 0).val + (k.val + 1) + 8; omega),
    show pb i (k.val + 1) = pb i k.val + 1 from rfl,
    home_give (F := F) (homeP c X) (by show 16 * (i 0).val + k.val < 16 * (i 0).val + 16; omega) (by show 16 * (i 0).val + k.val < 128; omega)]
  have e0 : role c X i k.val = iprop(∃ f, flightP c X (sl k.val) (bk (pb i k.val)) f) := if_pos hk
  have e8 : role c X i (k.val + 1 + 7) = iprop((∃ f, slotP c (sl k.val) f) ∗ cellP c (sl k.val)) := by
    rw [show k.val + 1 + 7 = k.val + 8 from rfl]; unfold role; rw [if_neg h8, hsl]
  rw [e0, e8]
  iintro ⟨H6, H7, ⟨%W, HW⟩, Hrest, ⟨HA, HAs⟩, ⟨HR, HRs⟩, HB, ⟨%f0, HF⟩, K1, K2, K3, K4, K5, K6, K7⟩
  dsimp only [tripG]
  sl_unfold [k0_t1_body]
  sl_exec
  delta trip_off.sl.HA_w1 trip_off.sl.r trip_off.sl.r_1 trip_off.sl.cst_26 trip_off.sl.v40
  ihave HA' := (acc_done c X A k (bk (pb i k.val)) _ _ _ (View.read_writes_whole _ _ _) _ _) $$ HA
  icases HA' with ⟨%A', %hA', HA⟩
  iapply (Transfers.wp_dmaBatch EC Variants.none (c : Thread nD τ) none (src := aBlk (ak k.val)) (dst := oBlk (bk (pb i k.val))) () 32768 rfl subset_rfl
    (D := outD c i G) (j := k.val) (u := 0) hk (Nat.zero_le _) (hD _ _ hA')) $$ [HA HR HB]
  · isplitl [HA]; · iexact HA
    isplitl [HR]; · iexact HR
    iexact HB
  iintro HB
  sl_exec
  sl_step
  isplitl [H6]; · iexact H6
  isplitl [H7]; · iexact H7
  isplitl [HW]; · iexists _; iexact HW
  isplitl [HF_src Hrest]
  · isplitl [HF_src]; · iexact HF_src
    iexact Hrest
  isplitl [HAs]; · iexact HAs
  isplitl [HRs]; · iexact HRs
  isplitl [HB]; · iexact HB
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [HF_dst]; · iexists _; iexact HF_dst
  iexact HF

/-- Any trip. -/
theorem trip (g6 : Buf (Elt F) (arg6.view.loc (c : Thread nD τ))) (g7 : Buf (Elt F) (arg7.view.loc (c : Thread nD τ)))
    (hG : ∀ j : ℕ, j < 16 → (oBlk (bk (pb i j))).view.read (Elt F) G
      = outW ((aBlk (ak j)).view.read (Elt F) A) ((xBlk (bk (pb i j))).view.read (Elt F) X) (rowR c arg6 g6) (rowR c arg7 g7))
    (k : Fin k0_t1_loop.trips) :
    resAt c X A R i arg6 arg7 G g6 g7 k.val
    ⊢ wp frame (wpE (defs₀ (F := F)) Variants.none (c : Thread nD τ) none) Set.univ (tripG i h4 arg2 harg2 arg3 harg3 arg4 harg4 arg6 harg6 arg7 harg7 k)
      (fun _ => resAt c X A R i arg6 arg7 G g6 g7 (k.val + 1)) :=
  if h8 : k.val + 8 < 16 then trip_on c X A R i h4 arg2 harg2 arg3 harg3 arg4 harg4 arg6 harg6 arg7 harg7 G g6 g7 hG k h8
  else trip_off c X A R i h4 arg2 harg2 arg3 harg3 arg4 harg4 arg6 harg6 arg7 harg7 G g6 g7 hG k h8

end Cert.KernelOutIdeal.Out

end
-- ==== Proof.OutAcc.lean ====
module

public import proofs.«01_k».proof.Proof.OutTrip
public import Idealize.ShloMosaic.Lib.WritesUnit

@[expose] public section

set_option maxRecDepth 16384
set_option backward.isDefEq.respectTransparency.types false

noncomputable section

namespace Cert.KernelOutIdeal.Out

open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Cert.KernelOutIdeal.Gen Idealize.ShloMosaic.ValueIdx

variable {F : FTy → Type} [FloatOps F]

local notation "𝕄" => MT nD τ sig Unit (Elt F) ℕ (Pipeline.UD sig nD τ) ℕ
local notation "EC" => countersEmb (U := Pipeline.UD sig nD τ)

variable (c : Dev nD)

/-! ## The accumulator as eight column tiles -/

/-- Column tile `j` of an array of 4096 columns. -/
abbrev tileR (j : Fin 8) : Rect S1024x4096 := Rect.unit (s := S1024x4096) ![0, 512 * j.val] S1024x512.size (by
  intro a; have := j.isLt; fin_cases a
  · show 0 + 1024 ≤ 1024; omega
  · show 512 * j.val + 512 ≤ 4096; omega)
/-- The array whose tile `j` is `q j`. -/
def tiled (q : Fin 8 → Vec F S1024x512 .f32) : Vec F S1024x4096 .f32 := fun y =>
  q ⟨(y 1).val / 512, by have : (y 1).val < 4096 := (y 1).isLt; omega⟩ (ix2 (y 0) ⟨(y 1).val % 512, Nat.mod_lt _ (by decide)⟩)

theorem col_hit (A : BufTy.Contents (Elt F) aM.view.ty) (o : ℕ) (inb : ∀ a : Fin 2, (![0, o] : Fin 2 → ℕ) a + S1024x512.size a ≤ S1024x4096.size a) (w : Vec F S1024x512 .f32)
    (L : List (View.Piece (Elt F) S1024x4096 .f32)) (y : S1024x4096.Idx) (h : o ≤ (y 1).val) (h' : (y 1).val - o < 512) :
    aM.view.read (Elt F) (aM.view.writes (Elt F) A ((⟨Rect.unit (s := S1024x4096) ![0, o] S1024x512.size inb, w⟩ : View.Piece (Elt F) S1024x4096 .f32) :: L)) y
      = w (ix2 (y 0) ⟨(y 1).val - o, h'⟩) :=
  View.read_writes_cons_unit_of_mem aM.view A inb w L y (ix2 (y 0) ⟨(y 1).val - o, h'⟩) rfl fun a => by
    fin_cases a
    · exact (Nat.zero_add _).symm
    · show (y 1).val = o + ((y 1).val - o); omega
theorem col_miss (A : BufTy.Contents (Elt F) aM.view.ty) (o : ℕ) (inb : ∀ a : Fin 2, (![0, o] : Fin 2 → ℕ) a + S1024x512.size a ≤ S1024x4096.size a) (w : Vec F S1024x512 .f32)
    (L : List (View.Piece (Elt F) S1024x4096 .f32)) (y : S1024x4096.Idx) (h : (y 1).val < o ∨ o + 512 ≤ (y 1).val) :
    aM.view.read (Elt F) (aM.view.writes (Elt F) A ((⟨Rect.unit (s := S1024x4096) ![0, o] S1024x512.size inb, w⟩ : View.Piece (Elt F) S1024x4096 .f32) :: L)) y
      = aM.view.read (Elt F) (aM.view.writes (Elt F) A L) y :=
  View.read_writes_cons_unit_of_not_mem aM.view A inb w L y rfl 1 h

/-- Eight stores, one a tile, leave the tiled array. -/
theorem read_tiles (A : BufTy.Contents (Elt F) aM.view.ty) (q : Fin 8 → Vec F S1024x512 .f32) :
    aM.view.read (Elt F) (aM.view.writes (Elt F) A
      [⟨Rect.unit (s := S1024x4096) ![0, 3584] S1024x512.size inb_S1024x4096_S1024x512_0_3584, q 7⟩,
       ⟨Rect.unit (s := S1024x4096) ![0, 3072] S1024x512.size inb_S1024x4096_S1024x512_0_3072, q 6⟩,
       ⟨Rect.unit (s := S1024x4096) ![0, 2560] S1024x512.size inb_S1024x4096_S1024x512_0_2560, q 5⟩,
       ⟨Rect.unit (s := S1024x4096) ![0, 2048] S1024x512.size inb_S1024x4096_S1024x512_0_2048, q 4⟩,
       ⟨Rect.unit (s := S1024x4096) ![0, 1536] S1024x512.size inb_S1024x4096_S1024x512_0_1536, q 3⟩,
       ⟨Rect.unit (s := S1024x4096) ![0, 1024] S1024x512.size inb_S1024x4096_S1024x512_0_1024, q 2⟩,
       ⟨Rect.unit (s := S1024x4096) ![0, 512] S1024x512.size inb_S1024x4096_S1024x512_0_512, q 1⟩,
       ⟨Rect.unit (s := S1024x4096) ![0, 0] S1024x512.size inb_S1024x4096_S1024x512_0_0, q 0⟩]) = tiled q := by
  funext y
  have hy : (y 1).val < 4096 := (y 1).isLt
  have hq : ∀ (j : Fin 8) (h : (y 1).val - 512 * j.val < 512) (h0 : 512 * j.val ≤ (y 1).val), q j (ix2 (y 0) ⟨(y 1).val - 512 * j.val, h⟩) = tiled q y := by
    intro j h h0
    have e : j = ⟨(y 1).val / 512, by omega⟩ := Fin.ext (by show j.val = (y 1).val / 512; omega)
    unfold tiled
    rw [← e]
    exact congrArg (fun z => q j (ix2 (y 0) z)) (Fin.ext (by show (y 1).val - 512 * j.val = (y 1).val % 512; omega))
  rcases Nat.lt_or_ge (y 1).val 3584 with g7 | g7
  swap; · exact (col_hit A 3584 _ _ _ y g7 (by omega)).trans (hq 7 _ g7)
  refine (col_miss A 3584 _ _ _ y (Or.inl g7)).trans ?_
  rcases Nat.lt_or_ge (y 1).val 3072 with g6 | g6
  swap; · exact (col_hit A 3072 _ _ _ y g6 (by omega)).trans (hq 6 _ g6)
  refine (col_miss A 3072 _ _ _ y (Or.inl g6)).trans ?_
  rcases Nat.lt_or_ge (y 1).val 2560 with g5 | g5
  swap; · exact (col_hit A 2560 _ _ _ y g5 (by omega)).trans (hq 5 _ g5)
  refine (col_miss A 2560 _ _ _ y (Or.inl g5)).trans ?_
  rcases Nat.lt_or_ge (y 1).val 2048 with g4 | g4
  swap; · exact (col_hit A 2048 _ _ _ y g4 (by omega)).trans (hq 4 _ g4)
  refine (col_miss A 2048 _ _ _ y (Or.inl g4)).trans ?_
  rcases Nat.lt_or_ge (y 1).val 1536 with g3 | g3
  swap; · exact (col_hit A 1536 _ _ _ y g3 (by omega)).trans (hq 3 _ g3)
  refine (col_miss A 1536 _ _ _ y (Or.inl g3)).trans ?_
  rcases Nat.lt_or_ge (y 1).val 1024 with g2 | g2
  swap; · exact (col_hit A 1024 _ _ _ y g2 (by omega)).trans (hq 2 _ g2)
  refine (col_miss A 1024 _ _ _ y (Or.inl g2)).trans ?_
  rcases Nat.lt_or_ge (y 1).val 512 with g1 | g1
  swap; · exact (col_hit A 512 _ _ _ y g1 (by omega)).trans (hq 1 _ g1)
  refine (col_miss A 512 _ _ _ y (Or.inl g1)).trans ?_
  exact (col_hit A 0 _ _ _ y (Nat.zero_le _) (by omega)).trans (hq 0 _ (Nat.zero_le _))

/-! ## What a step makes of the accumulator -/

/-- The left operand of a step of the SSD half, as it is loaded; of one of the recurrent half, its eight slabs side by side. -/
def lhsS (s : Vec F S1024x1024 .bf16) : Vec F S1024x1024 .bf16 := View.ld s (Rect.unit (s := S1024x1024) ![0, 0] S1024x1024.size inb_S1024x1024_S1024x1024_0_0)
def lhsL (l : Vec F S8x1024x128 .f32) : Vec F S1024x1024 .bf16 :=
  k0_pay24 (View.ld l (Rect.unit (s := S8x1024x128) ![0, 0, 0] S1x1024x128.size inb_S8x1024x128_S1x1024x128_0_0_0))
    (View.ld l (Rect.unit (s := S8x1024x128) ![1, 0, 0] S1x1024x128.size inb_S8x1024x128_S1x1024x128_1_0_0))
    (View.ld l (Rect.unit (s := S8x1024x128) ![2, 0, 0] S1x1024x128.size inb_S8x1024x128_S1x1024x128_2_0_0))
    (View.ld l (Rect.unit (s := S8x1024x128) ![3, 0, 0] S1x1024x128.size inb_S8x1024x128_S1x1024x128_3_0_0))
    (View.ld l (Rect.unit (s := S8x1024x128) ![4, 0, 0] S1x1024x128.size inb_S8x1024x128_S1x1024x128_4_0_0))
    (View.ld l (Rect.unit (s := S8x1024x128) ![5, 0, 0] S1x1024x128.size inb_S8x1024x128_S1x1024x128_5_0_0))
    (View.ld l (Rect.unit (s := S8x1024x128) ![6, 0, 0] S1x1024x128.size inb_S8x1024x128_S1x1024x128_6_0_0))
    (View.ld l (Rect.unit (s := S8x1024x128) ![7, 0, 0] S1x1024x128.size inb_S8x1024x128_S1x1024x128_7_0_0))
/-- The first step: the products. A later one: the products added. -/
def accNew (l : Vec F S1024x1024 .bf16) (w : Vec F S1024x4096 .bf16) : Vec F S1024x4096 .f32 := tiled fun j => k0_pay1 l (View.ld w (tileR j))
def accAdd (l : Vec F S1024x1024 .bf16) (w : Vec F S1024x4096 .bf16) (a : Vec F S1024x4096 .f32) : Vec F S1024x4096 .f32 :=
  tiled fun j => k0_pay7 l (View.ld w (tileR j)) (View.ld a (tileR j))

/-- Whether a row of the SSD mixer's half is added; whether one of the recurrent mixer's is. -/
abbrev inSsd (i : grid0.Coords) : Prop :=
  Scalar.cmpi .ne (Scalar.extui (Scalar.andi (Scalar.cmpi .sgt (BitVec.ofNat 32 (i 1).val) 0#32) (Scalar.cmpi .slt (BitVec.ofNat 32 (i 1).val) 4#32))) 0#32 = 1#1
abbrev inLru (i : grid0.Coords) : Prop :=
  Scalar.cmpi .ne (Scalar.extui (Scalar.cmpi .sge (BitVec.ofNat 32 (i 1).val) 4#32)) 0#32 = 1#1

/-- A window or a scratch array at its contents. -/
abbrev heldP {sp : Space} {s : Shape} {e : EltTy} (M : Memref sig .tc sp s e) (g : Buf (Elt F) (M.view.loc (c : Thread nD τ))) : sProp 𝕄 :=
  M.view.loc (c : Thread nD τ) ↦[M.view.set]{fullShare} g

section
variable (i : grid0.Coords)
  (arg2 : Memref sig .tc .vmem S1024x1024 .bf16) (harg2 : arg2.IsWhole) (arg3 : Memref sig .tc .vmem S8x1024x128 .f32) (harg3 : arg3.IsWhole)
  (arg4 : Memref sig .tc .vmem S1024x4096 .bf16) (harg4 : arg4.IsWhole)
  (arg6 : Memref sig .tc .vmem S1x4096 .f32) (harg6 : arg6.IsWhole) (arg7 : Memref sig .tc .vmem S1x4096 .f32) (harg7 : arg7.IsWhole)

abbrev bodyG : Prog (TpuEff nD τ sig (Elt F) Λ₀ .tc) PUnit :=
  cc0_out_proj_ln (F := F) i arg2 harg2 arg3 harg3 arg4 harg4 xM (Memref.isWhole_whole _) arg6 harg6 arg7 harg7 oM (Memref.isWhole_whole _)
    aM (Memref.isWhole_whole _) rM (Memref.isWhole_whole _) cc0_scratch2 cc0_scratch3

variable (g2 : Buf (Elt F) (arg2.view.loc (c : Thread nD τ))) (g3 : Buf (Elt F) (arg3.view.loc (c : Thread nD τ))) (g4 : Buf (Elt F) (arg4.view.loc (c : Thread nD τ)))
  (A : Buf (Elt F) (aM.view.loc (c : Thread nD τ)))

/-- The same of the accumulator held. -/
theorem acc_tiled (p0 p1 p2 p3 p4 p5 p6 p7 : Vec F S1024x512 .f32) :
    heldP c aM (aM.view.writes (Elt F) A
      [⟨Rect.unit (s := S1024x4096) ![0, 3584] S1024x512.size inb_S1024x4096_S1024x512_0_3584, p7⟩,
       ⟨Rect.unit (s := S1024x4096) ![0, 3072] S1024x512.size inb_S1024x4096_S1024x512_0_3072, p6⟩,
       ⟨Rect.unit (s := S1024x4096) ![0, 2560] S1024x512.size inb_S1024x4096_S1024x512_0_2560, p5⟩,
       ⟨Rect.unit (s := S1024x4096) ![0, 2048] S1024x512.size inb_S1024x4096_S1024x512_0_2048, p4⟩,
       ⟨Rect.unit (s := S1024x4096) ![0, 1536] S1024x512.size inb_S1024x4096_S1024x512_0_1536, p3⟩,
       ⟨Rect.unit (s := S1024x4096) ![0, 1024] S1024x512.size inb_S1024x4096_S1024x512_0_1024, p2⟩,
       ⟨Rect.unit (s := S1024x4096) ![0, 512] S1024x512.size inb_S1024x4096_S1024x512_0_512, p1⟩,
       ⟨Rect.unit (s := S1024x4096) ![0, 0] S1024x512.size inb_S1024x4096_S1024x512_0_0, p0⟩]) ⊢ heldP c aM (aM.view.rep (tiled ![p0, p1, p2, p3, p4, p5, p6, p7])) :=
  .of_eq (pts_eq c aM _ _ ((read_tiles A ![p0, p1, p2, p3, p4, p5, p6, p7]).trans (View.read_rep _ _).symm))

theorem tiles_eq (q : Fin 8 → Vec F S1024x512 .f32) (p0 p1 p2 p3 p4 p5 p6 p7 : Vec F S1024x512 .f32)
    (h0 : p0 = q 0) (h1 : p1 = q 1) (h2 : p2 = q 2) (h3 : p3 = q 3) (h4 : p4 = q 4) (h5 : p5 = q 5) (h6 : p6 = q 6) (h7 : p7 = q 7) :
    tiled ![p0, p1, p2, p3, p4, p5, p6, p7] = tiled q := by
  subst h0 h1 h2 h3 h4 h5 h6 h7
  refine congrArg tiled (funext fun j => ?_)
  fin_cases j <;> rfl

theorem runB (h1 : ¬ k0_cond1 i = 1#1) (h2 : inSsd i) (h3 : ¬ inLru i) (h4 : ¬ k0_cond4 i = 1#1) :
    iprop(heldP c arg2 g2 ∗ heldP c arg4 g4 ∗ heldP c aM A)
    ⊢ wp frame (wpE (defs₀ (F := F)) Variants.none (c : Thread nD τ) none) Set.univ (bodyG i arg2 harg2 arg3 harg3 arg4 harg4 arg6 harg6 arg7 harg7)
      (fun _ => iprop(heldP c arg2 g2 ∗ heldP c arg4 g4
        ∗ ∃ D, ⌜D = accAdd (lhsS (arg2.view.read (Elt F) g2)) (arg4.view.read (Elt F) g4) (aM.view.read (Elt F) A)⌝ ∗ heldP c aM (aM.view.rep D))) := by
  iintro ⟨H2, H4, HA⟩
  unfold bodyG
  rw [cc0_out_proj_ln_eq_skeleton]
  unfold cc0_out_proj_ln_skel
  sl_exec
  sl_step
  isplitl [H2]; · iexact H2
  isplitl [H4]; · iexact H4
  ihave HA' := (acc_tiled c A _ _ _ _ _ _ _ _) $$ HA
  iexists _
  isplitr [HA']
  rotate_left
  · iexact HA'
  · ipureintro
    delta runB.sl.r runB.sl.r_1 runB.sl.r_2 runB.sl.cst_50 runB.sl.v26 runB.sl.v34 runB.sl.v42 runB.sl.v50 runB.sl.v58 runB.sl.v66 runB.sl.v74
    exact tiles_eq _ _ _ _ _ _ _ _ _ rfl rfl rfl rfl rfl rfl rfl rfl

theorem runC (h1 : ¬ k0_cond1 i = 1#1) (h2 : ¬ inSsd i) (h3 : inLru i) (h4 : ¬ k0_cond4 i = 1#1) :
    iprop(heldP c arg3 g3 ∗ heldP c arg4 g4 ∗ heldP c aM A)
    ⊢ wp frame (wpE (defs₀ (F := F)) Variants.none (c : Thread nD τ) none) Set.univ (bodyG i arg2 harg2 arg3 harg3 arg4 harg4 arg6 harg6 arg7 harg7)
      (fun _ => iprop(heldP c arg3 g3 ∗ heldP c arg4 g4
        ∗ ∃ D, ⌜D = accAdd (lhsL (arg3.view.read (Elt F) g3)) (arg4.view.read (Elt F) g4) (aM.view.read (Elt F) A)⌝ ∗ heldP c aM (aM.view.rep D))) := by
  iintro ⟨H3, H4, HA⟩
  unfold bodyG
  rw [cc0_out_proj_ln_eq_skeleton]
  unfold cc0_out_proj_ln_skel
  sl_exec
  sl_step
  isplitl [H3]; · iexact H3
  isplitl [H4]; · iexact H4
  ihave HA' := (acc_tiled c A _ _ _ _ _ _ _ _) $$ HA
  iexists _
  isplitr [HA']
  rotate_left
  · iexact HA'
  · ipureintro
    exact tiles_eq _ _ _ _ _ _ _ _ _ rfl rfl rfl rfl rfl rfl rfl rfl

theorem runA (X : Buf (Elt F) (xM.view.loc (c : Thread nD τ))) (f0 f1 f2 f3 f4 f5 f6 f7)
    (h1 : k0_cond1 i = 1#1) (h2 : ¬ inSsd i) (h3 : ¬ inLru i) (h4 : ¬ k0_cond4 i = 1#1) :
    iprop(heldP c arg2 g2 ∗ heldP c arg4 g4 ∗ heldP c aM A
      ∗ homeP c X (bk (pb i 0)) ∗ homeP c X (bk (pb i 1)) ∗ homeP c X (bk (pb i 2)) ∗ homeP c X (bk (pb i 3))
      ∗ homeP c X (bk (pb i 4)) ∗ homeP c X (bk (pb i 5)) ∗ homeP c X (bk (pb i 6)) ∗ homeP c X (bk (pb i 7))
      ∗ (slotP c 0 f0 ∗ cellP c 0) ∗ (slotP c 1 f1 ∗ cellP c 1) ∗ (slotP c 2 f2 ∗ cellP c 2) ∗ (slotP c 3 f3 ∗ cellP c 3)
      ∗ (slotP c 4 f4 ∗ cellP c 4) ∗ (slotP c 5 f5 ∗ cellP c 5) ∗ (slotP c 6 f6 ∗ cellP c 6) ∗ (slotP c 7 f7 ∗ cellP c 7))
    ⊢ wp frame (wpE (defs₀ (F := F)) Variants.none (c : Thread nD τ) none) Set.univ (bodyG i arg2 harg2 arg3 harg3 arg4 harg4 arg6 harg6 arg7 harg7)
      (fun _ => iprop(heldP c arg2 g2 ∗ heldP c arg4 g4
        ∗ (∃ D, ⌜D = accNew (lhsS (arg2.view.read (Elt F) g2)) (arg4.view.read (Elt F) g4)⌝ ∗ heldP c aM (aM.view.rep D))
        ∗ flightP c X 0 (bk (pb i 0)) f0 ∗ flightP c X 1 (bk (pb i 1)) f1 ∗ flightP c X 2 (bk (pb i 2)) f2 ∗ flightP c X 3 (bk (pb i 3)) f3
        ∗ flightP c X 4 (bk (pb i 4)) f4 ∗ flightP c X 5 (bk (pb i 5)) f5 ∗ flightP c X 6 (bk (pb i 6)) f6 ∗ flightP c X 7 (bk (pb i 7)) f7)) := by
  iintro ⟨H2, H4, HA, X0, X1, X2, X3, X4, X5, X6, X7, ⟨S0, C0⟩, ⟨S1, C1⟩, ⟨S2, C2⟩, ⟨S3, C3⟩, ⟨S4, C4⟩, ⟨S5, C5⟩, ⟨S6, C6⟩, ⟨S7, C7⟩⟩
  unfold bodyG
  rw [cc0_out_proj_ln_eq_skeleton]
  unfold cc0_out_proj_ln_skel
  sl_exec
  sl_step
  isplitl [H2]; · iexact H2
  isplitl [H4]; · iexact H4
  isplitl [HA]
  · ihave HA' := (acc_tiled c A _ _ _ _ _ _ _ _) $$ HA
    iexists _
    isplitr [HA']
    rotate_left
    · iexact HA'
    · ipureintro
      exact tiles_eq _ _ _ _ _ _ _ _ _ rfl rfl rfl rfl rfl rfl rfl rfl
  delta runA.sl.dma0 runA.sl.dma0_1 runA.sl.dma0_2 runA.sl.dma0_3 runA.sl.dma0_4 runA.sl.dma0_5 runA.sl.dma0_6 runA.sl.dma0_7
  isplitl [C0]; · iexact C0
  isplitl [C1]; · iexact C1
  isplitl [C2]; · iexact C2
  isplitl [C3]; · iexact C3
  isplitl [C4]; · iexact C4
  isplitl [C5]; · iexact C5
  isplitl [C6]; · iexact C6
  iexact C7

end

end Cert.KernelOutIdeal.Out

end
-- ==== Proof.OutLast.lean ====
module

public import proofs.«01_k».proof.Proof.OutAcc

@[expose] public section

set_option maxRecDepth 16384
set_option backward.isDefEq.respectTransparency.types false

noncomputable section

namespace Cert.KernelOutIdeal.Out

open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Cert.KernelOutIdeal.Gen Idealize.ShloMosaic.ValueIdx

variable {F : FTy → Type} [FloatOps F]

local notation "𝕄" => MT nD τ sig Unit (Elt F) ℕ (Pipeline.UD sig nD τ) ℕ
local notation "EC" => countersEmb (U := Pipeline.UD sig nD τ)

variable (c : Dev nD)

section
variable (i : grid0.Coords)
  (arg2 : Memref sig .tc .vmem S1024x1024 .bf16) (harg2 : arg2.IsWhole) (arg3 : Memref sig .tc .vmem S8x1024x128 .f32) (harg3 : arg3.IsWhole)
  (arg4 : Memref sig .tc .vmem S1024x4096 .bf16) (harg4 : arg4.IsWhole)
  (arg6 : Memref sig .tc .vmem S1x4096 .f32) (harg6 : arg6.IsWhole) (arg7 : Memref sig .tc .vmem S1x4096 .f32) (harg7 : arg7.IsWhole)

variable (g2 : Buf (Elt F) (arg2.view.loc (c : Thread nD τ))) (g3 : Buf (Elt F) (arg3.view.loc (c : Thread nD τ))) (g4 : Buf (Elt F) (arg4.view.loc (c : Thread nD τ)))
  (A : Buf (Elt F) (aM.view.loc (c : Thread nD τ)))

/-! ## The drain: one wait a transfer -/

variable (G : Buf (Elt F) (oM.view.loc (c : Thread nD τ)))

/-- Before trip `k` of the drain. -/
def drainAt (k : ℕ) : sProp 𝕄 :=
  iprop(⌜k ≤ 16⌝ ∗ (∃ W, owes (c : Thread nD τ) 0 W)
    ∗ (if k < 16 then outB c i G 16 (k * 32768) else iprop(semVal ((c : Thread nD τ), SemLoc.dma cc0_scratch3.sem) 0 ∗ bigSep Finset.univ (outD c i G))))

theorem drain_step (h4 : k0_cond4 i = 1#1) (k : Fin k0_t2_loop.trips) :
    drainAt c i G k.val ⊢ wp frame (wpE (defs₀ (F := F)) Variants.none (c : Thread nD τ) none) Set.univ
      (k0_t2_body (F := F) i arg2 harg2 arg3 harg3 arg4 harg4 xM (Memref.isWhole_whole _) arg6 harg6 arg7 harg7 oM (Memref.isWhole_whole _)
        aM (Memref.isWhole_whole _) rM (Memref.isWhole_whole _) cc0_scratch2 cc0_scratch3 h4 k ())
      (fun _ => drainAt c i G (k.val + 1)) := by
  have hk : k.val < 16 := trips2 ▸ k.isLt
  unfold drainAt
  simp only [if_pos hk]
  rcases Nat.lt_or_ge (k.val + 1) 16 with h1 | h1
  · simp only [if_pos h1]
    iintro ⟨-, ⟨%W, HO⟩, HB⟩
    sl_unfold [k0_t2_body]
    sl_exec
    sl_step
    isplitr; · ipureintro; omega
    isplitl [HO]; · iexists _; iexact HO
    rw [show (k.val + 1) * 32768 = k.val * 32768 + 32768 by omega]
    iexact HB
  · simp only [if_neg (Nat.not_lt.mpr h1)]
    iintro ⟨-, ⟨%W, HO⟩, HB⟩
    sl_unfold [k0_t2_body]
    sl_exec
    sl_step
    isplitr; · ipureintro; omega
    isplitl [HO]; · iexists _; iexact HO
    isplitl [HB]; · iexact HB
    iexact HB_all

/-! ## The last step of a row tile -/

theorem acc_known (p0 p1 p2 p3 p4 p5 p6 p7 : Vec F S1024x512 .f32) :
    heldP c aM (aM.view.writes (Elt F) A
      [⟨Rect.unit (s := S1024x4096) ![0, 3584] S1024x512.size inb_S1024x4096_S1024x512_0_3584, p7⟩,
       ⟨Rect.unit (s := S1024x4096) ![0, 3072] S1024x512.size inb_S1024x4096_S1024x512_0_3072, p6⟩,
       ⟨Rect.unit (s := S1024x4096) ![0, 2560] S1024x512.size inb_S1024x4096_S1024x512_0_2560, p5⟩,
       ⟨Rect.unit (s := S1024x4096) ![0, 2048] S1024x512.size inb_S1024x4096_S1024x512_0_2048, p4⟩,
       ⟨Rect.unit (s := S1024x4096) ![0, 1536] S1024x512.size inb_S1024x4096_S1024x512_0_1536, p3⟩,
       ⟨Rect.unit (s := S1024x4096) ![0, 1024] S1024x512.size inb_S1024x4096_S1024x512_0_1024, p2⟩,
       ⟨Rect.unit (s := S1024x4096) ![0, 512] S1024x512.size inb_S1024x4096_S1024x512_0_512, p1⟩,
       ⟨Rect.unit (s := S1024x4096) ![0, 0] S1024x512.size inb_S1024x4096_S1024x512_0_0, p0⟩]) ⊢ iprop(∃ D, ⌜D = tiled ![p0, p1, p2, p3, p4, p5, p6, p7]⌝ ∗ heldP c aM (aM.view.rep D)) := by
  iintro H
  iexists _
  isplitr [H]
  rotate_left
  · iapply (acc_tiled c A p0 p1 p2 p3 p4 p5 p6 p7) $$ H
  · ipureintro; rfl

theorem acc_blocks (D : Buf (Elt F) (aM.view.loc (c : Thread nD τ))) :
    (heldP c aM D : sProp 𝕄) = bigSep (Ring.rangeSet 16 0 16) (accP c D) := by
  rw [Ring.rangeSet_univ]
  have h := Ring.pointsTo_blocks (nD := nD) (τ := τ) (sig := sig) (Ix := Unit) (Val := Elt F) (Name := ℕ) (U := Pipeline.UD sig nD τ) (Lvl := ℕ) (ℓ := aM.view.loc (c : Thread nD τ)) (q := fullShare) accSet accSet_disjoint accSet_cover D
  unfold heldP
  rw [show aM.view.set = Finset.univ from View.set_whole _]
  refine h.trans (congrArg (bigSep Finset.univ) (funext fun j => ?_))
  unfold accP; rw [aBlk_set]; rfl
theorem acc_split (D D' : Buf (Elt F) (aM.view.loc (c : Thread nD τ))) (h : D = D') :
    (heldP c aM D : sProp 𝕄) ⊢ bigSep (Ring.rangeSet 16 0 16) (accP c D') := by
  subst h; exact .of_eq (acc_blocks c D)

variable (X : Buf (Elt F) (xM.view.loc (c : Thread nD τ))) (R : Buf (Elt F) (oM.view.loc (c : Thread nD τ)))
  (g6 : Buf (Elt F) (arg6.view.loc (c : Thread nD τ))) (g7 : Buf (Elt F) (arg7.view.loc (c : Thread nD τ)))

/-- The accumulator once the last half-row is added. -/
abbrev accLast : Buf (Elt F) (aM.view.loc (c : Thread nD τ)) :=
  aM.view.rep (accAdd (lhsL (arg3.view.read (Elt F) g3)) (arg4.view.read (Elt F) g4) (aM.view.read (Elt F) A))

theorem runD (h1 : ¬ k0_cond1 i = 1#1) (h2 : ¬ inSsd i) (h3 : inLru i) (h4 : k0_cond4 i = 1#1)
    (hG : ∀ j : ℕ, j < 16 → (oBlk (bk (pb i j))).view.read (Elt F) G
      = outW ((aBlk (ak j)).view.read (Elt F) (accLast c arg3 arg4 g3 g4 A)) ((xBlk (bk (pb i j))).view.read (Elt F) X) (rowR c arg6 g6) (rowR c arg7 g7)) :
    iprop(heldP c arg3 g3 ∗ heldP c arg4 g4 ∗ heldP c aM A ∗ rowP c arg6 g6 ∗ rowP c arg7 g7 ∗ (∃ W, owes (c : Thread nD τ) 0 W)
      ∗ bigSep (homeS (pb i 0) (min (pb i 0 + 8) (pb i 16))) (homeP c X) ∗ bigSep (Ring.rangeSet 128 (pb i 0) (pb i 16)) (resP c R)
      ∗ semVal ((c : Thread nD τ), SemLoc.dma cc0_scratch3.sem) 0
      ∗ role c X i 0 ∗ role c X i 1 ∗ role c X i 2 ∗ role c X i 3 ∗ role c X i 4 ∗ role c X i 5 ∗ role c X i 6 ∗ role c X i 7)
    ⊢ wp frame (wpE (defs₀ (F := F)) Variants.none (c : Thread nD τ) none) Set.univ (bodyG i arg2 harg2 arg3 harg3 arg4 harg4 arg6 harg6 arg7 harg7)
      (fun _ => iprop(heldP c arg3 g3 ∗ heldP c arg4 g4 ∗ rowP c arg6 g6 ∗ rowP c arg7 g7 ∗ (∃ W, owes (c : Thread nD τ) 0 W)
        ∗ bigSep (homeS (pb i 16) (min (pb i 16 + 8) (pb i 16))) (homeP c X)
        ∗ (semVal ((c : Thread nD τ), SemLoc.dma cc0_scratch3.sem) 0 ∗ bigSep Finset.univ (outD c i G))
        ∗ role c X i 16 ∗ role c X i 17 ∗ role c X i 18 ∗ role c X i 19 ∗ role c X i 20 ∗ role c X i 21 ∗ role c X i 22 ∗ role c X i 23)) := by
  iintro ⟨H3, H4, HA, H6, H7, ⟨%W, HO⟩, HX, HR, HC, K0, K1, K2, K3, K4, K5, K6, K7⟩
  imod (Transfers.batch_alloc' (Lvl := ℕ) EC (c : Thread nD τ) () 32768 (outD c i G) (sm := .dma cc0_scratch3.sem) (E := Set.univ)) $$ HC with HB
  unfold bodyG
  rw [cc0_out_proj_ln_eq_skeleton]
  unfold cc0_out_proj_ln_skel
  sl_exec
  delta runD.sl.HA_8
  ihave HA' := (acc_known c _ _ _ _ _ _ _ _ _) $$ HA
  icases HA' with ⟨%D, %hD, HA⟩
  have hD' : aM.view.rep D = accLast c arg3 arg4 g3 g4 A := congrArg _ (hD.trans (tiles_eq _ _ _ _ _ _ _ _ _ rfl rfl rfl rfl rfl rfl rfl rfl))
  ihave HAs := (acc_split c _ _ hD') $$ HA
  clear hD hD'
  sl_for (fun k _ => resAt c X (accLast c arg3 arg4 g3 g4 A) R i arg6 arg7 G g6 g7 k) $$ [H6 H7 HO HX HAs HR HB K0 K1 K2 K3 K4 K5 K6 K7]
  · intro k acc
    exact trip c X _ R i h4 arg2 harg2 arg3 harg3 arg4 harg4 arg6 harg6 arg7 harg7 G g6 g7 hG k
  · unfold resAt
    isplitl [H6]; · iexact H6
    isplitl [H7]; · iexact H7
    isplitl [HO]; · iexists _; iexact HO
    isplitl [HX]; · iexact HX
    isplitl [HAs]; · iexact HAs
    isplitl [HR]; · iexact HR
    isplitl [HB]; · iexact HB
    isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  iintro %acc HL
  ihave HL' := (show resAt c X (accLast c arg3 arg4 g3 g4 A) R i arg6 arg7 G g6 g7 (Scf.trips k0_t1_loop.lb k0_t1_loop.ub k0_t1_loop.st)
      ⊢ resAt c X (accLast c arg3 arg4 g3 g4 A) R i arg6 arg7 G g6 g7 16 from .of_eq (congrArg (resAt c X (accLast c arg3 arg4 g3 g4 A) R i arg6 arg7 G g6 g7) trips1)) $$ HL
  unfold resAt
  icases HL' with ⟨H6, H7, HO, HX, -, -, HB, K0, K1, K2, K3, K4, K5, K6, K7⟩
  sl_exec
  sl_for (fun k _ => drainAt c i G k) $$ [HO HB]
  · intro k acc
    exact drain_step c i arg2 harg2 arg3 harg3 arg4 harg4 arg6 harg6 arg7 harg7 G h4 k
  · unfold drainAt
    rw [if_pos (by decide)]
    isplitr; · ipureintro; omega
    isplitl [HO]; · iexact HO
    iexact HB
  iintro %acc' HL
  ihave HL' := (show drainAt c i G (Scf.trips k0_t2_loop.lb k0_t2_loop.ub k0_t2_loop.st)
      ⊢ iprop((∃ W, owes (c : Thread nD τ) 0 W) ∗ (semVal ((c : Thread nD τ), SemLoc.dma cc0_scratch3.sem) 0 ∗ bigSep Finset.univ (outD c i G))) from by
    rw [show Scf.trips k0_t2_loop.lb k0_t2_loop.ub k0_t2_loop.st = 16 from trips2]
    unfold drainAt; rw [if_neg (Nat.lt_irrefl _)]
    iintro ⟨-, HO, HD⟩
    isplitl [HO]; · iexact HO
    iexact HD) $$ HL
  icases HL' with ⟨HO, HD⟩
  sl_exec
  sl_step
  isplitl [H3]; · iexact H3
  isplitl [H4]; · iexact H4
  isplitl [H6]; · iexact H6
  isplitl [H7]; · iexact H7
  isplitl [HO]; · iexact HO
  isplitl [HX]; · iexact HX
  isplitl [HD]; · iexact HD
  isplitl [K0]; · iexact K0
  isplitl [K1]; · iexact K1
  isplitl [K2]; · iexact K2
  isplitl [K3]; · iexact K3
  isplitl [K4]; · iexact K4
  isplitl [K5]; · iexact K5
  isplitl [K6]; · iexact K6
  iexact K7

end

end Cert.KernelOutIdeal.Out

end
-- ==== Proof.OutSteps.lean ====
module

public import proofs.«01_k».proof.Proof.OutLast

@[expose] public section

set_option maxRecDepth 16384
set_option backward.isDefEq.respectTransparency.types false

noncomputable section

namespace Cert.KernelOutIdeal.Out

open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Cert.KernelOutIdeal.Gen Idealize.ShloMosaic.ValueIdx

variable {F : FTy → Type} [FloatOps F]

local notation "𝕄" => MT nD τ sig Unit (Elt F) ℕ (Pipeline.UD sig nD τ) ℕ
local notation "EC" => countersEmb (U := Pipeline.UD sig nD τ)

variable (c : Dev nD)

/-! ## Between row tiles, and within one -/

/-- A slot without a block. -/
abbrev freeP (s : Fin 8) : sProp 𝕄 := iprop((∃ f, slotP c s f) ∗ cellP c s)
/-- Slot `s` with block `16 I + s` on its way. -/
abbrev sentP (X : Buf (Elt F) (xM.view.loc (c : Thread nD τ))) (I : ℕ) (s : Fin 8) : sProp 𝕄 := iprop(∃ f, flightP c X s (bk (16 * I + s.val)) f)
/-- Between row tiles: every residual block home, every slot free, the accumulator at any contents. -/
def idle (X : Buf (Elt F) (xM.view.loc (c : Thread nD τ))) : sProp 𝕄 :=
  iprop((∃ A, heldP c aM A) ∗ bigSep Finset.univ (homeP c X)
    ∗ freeP c 0 ∗ freeP c 1 ∗ freeP c 2 ∗ freeP c 3 ∗ freeP c 4 ∗ freeP c 5 ∗ freeP c 6 ∗ freeP c 7)
/-- Within row tile `I`: its first eight blocks on their way, the accumulator at `D`. -/
def busy (X : Buf (Elt F) (xM.view.loc (c : Thread nD τ))) (I : ℕ) (D : Vec F S1024x4096 .f32) : sProp 𝕄 :=
  iprop(heldP c aM (aM.view.rep D) ∗ bigSep (homeS (16 * I) (16 * I + 8)) (homeP c X)
    ∗ sentP c X I 0 ∗ sentP c X I 1 ∗ sentP c X I 2 ∗ sentP c X I 3 ∗ sentP c X I 4 ∗ sentP c X I 5 ∗ sentP c X I 6 ∗ sentP c X I 7)

theorem homes_out (Φ : Fin 128 → sProp 𝕄) (I : ℕ) (hI : I < 8) :
    bigSep Finset.univ Φ = iprop(Φ (bk (16 * I + 0)) ∗ Φ (bk (16 * I + 1)) ∗ Φ (bk (16 * I + 2)) ∗ Φ (bk (16 * I + 3)) ∗ Φ (bk (16 * I + 4))
      ∗ Φ (bk (16 * I + 5)) ∗ Φ (bk (16 * I + 6)) ∗ Φ (bk (16 * I + 7)) ∗ bigSep (homeS (16 * I) (16 * I + 8)) Φ) := by
  rw [← homeS_self (16 * I), home_take Φ (Nat.le_refl _) (by omega), home_take Φ (Nat.le_add_right _ _) (by omega),
    home_take Φ (Nat.le_add_right (16 * I) (1 + 1)) (by omega), home_take Φ (Nat.le_add_right (16 * I) (1 + 1 + 1)) (by omega),
    home_take Φ (Nat.le_add_right (16 * I) (1 + 1 + 1 + 1)) (by omega), home_take Φ (Nat.le_add_right (16 * I) (1 + 1 + 1 + 1 + 1)) (by omega),
    home_take Φ (Nat.le_add_right (16 * I) (1 + 1 + 1 + 1 + 1 + 1)) (by omega), home_take Φ (Nat.le_add_right (16 * I) (1 + 1 + 1 + 1 + 1 + 1 + 1)) (by omega)]
  rfl

section
variable (X : Buf (Elt F) (xM.view.loc (c : Thread nD τ))) (i : grid0.Coords)
  (arg2 : Memref sig .tc .vmem S1024x1024 .bf16) (harg2 : arg2.IsWhole) (arg3 : Memref sig .tc .vmem S8x1024x128 .f32) (harg3 : arg3.IsWhole)
  (arg4 : Memref sig .tc .vmem S1024x4096 .bf16) (harg4 : arg4.IsWhole)
  (arg6 : Memref sig .tc .vmem S1x4096 .f32) (harg6 : arg6.IsWhole) (arg7 : Memref sig .tc .vmem S1x4096 .f32) (harg7 : arg7.IsWhole)
  (g2 : Buf (Elt F) (arg2.view.loc (c : Thread nD τ))) (g3 : Buf (Elt F) (arg3.view.loc (c : Thread nD τ))) (g4 : Buf (Elt F) (arg4.view.loc (c : Thread nD τ)))
  (D : Vec F S1024x4096 .f32)

theorem rep_read (D : Vec F S1024x4096 .f32) : aM.view.read (Elt F) (aM.view.rep D) = D := View.read_rep _ _

/-- The first point of a row tile. -/
theorem stepA (h1 : k0_cond1 i = 1#1) (h2 : ¬ inSsd i) (h3 : ¬ inLru i) (h4 : ¬ k0_cond4 i = 1#1) :
    iprop(heldP c arg2 g2 ∗ heldP c arg4 g4 ∗ idle c X)
    ⊢ wp frame (wpE (defs₀ (F := F)) Variants.none (c : Thread nD τ) none) Set.univ (bodyG i arg2 harg2 arg3 harg3 arg4 harg4 arg6 harg6 arg7 harg7)
      (fun _ => iprop(heldP c arg2 g2 ∗ heldP c arg4 g4
        ∗ busy c X (i 0).val (accNew (lhsS (arg2.view.read (Elt F) g2)) (arg4.view.read (Elt F) g4)))) := by
  have hi : (i 0).val < 8 := (i 0).isLt
  unfold idle
  rw [homes_out (homeP c X) (i 0).val hi]
  iintro ⟨H2, H4, ⟨%A, HA⟩, ⟨X0, X1, X2, X3, X4, X5, X6, X7, HX⟩, ⟨⟨%f0, S0⟩, C0⟩, ⟨⟨%f1, S1⟩, C1⟩, ⟨⟨%f2, S2⟩, C2⟩, ⟨⟨%f3, S3⟩, C3⟩, ⟨⟨%f4, S4⟩, C4⟩, ⟨⟨%f5, S5⟩, C5⟩, ⟨⟨%f6, S6⟩, C6⟩, ⟨⟨%f7, S7⟩, C7⟩⟩
  ihave Hw := (runA c i arg2 harg2 arg3 harg3 arg4 harg4 arg6 harg6 arg7 harg7 g2 g4 A X f0 f1 f2 f3 f4 f5 f6 f7 h1 h2 h3 h4)
    $$ [H2 H4 HA X0 X1 X2 X3 X4 X5 X6 X7 S0 C0 S1 C1 S2 C2 S3 C3 S4 C4 S5 C5 S6 C6 S7 C7]
  · isplitl [H2]; · iexact H2
    isplitl [H4]; · iexact H4
    isplitl [HA]; · iexact HA
    isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [S0 C0]; · isplitl [S0]; · iexact S0
                       iexact C0
    isplitl [S1 C1]; · isplitl [S1]; · iexact S1
                       iexact C1
    isplitl [S2 C2]; · isplitl [S2]; · iexact S2
                       iexact C2
    isplitl [S3 C3]; · isplitl [S3]; · iexact S3
                       iexact C3
    isplitl [S4 C4]; · isplitl [S4]; · iexact S4
                       iexact C4
    isplitl [S5 C5]; · isplitl [S5]; · iexact S5
                       iexact C5
    isplitl [S6 C6]; · isplitl [S6]; · iexact S6
                       iexact C6
    isplitl [S7]; · iexact S7
    iexact C7
  iapply (wp_wand_r frame (wpE (defs₀ (F := F)) Variants.none (c : Thread nD τ) none) Set.univ)
  isplitl [Hw]; · iexact Hw
  iintro %_ ⟨H2, H4, ⟨%D, %hD, HA⟩, K0, K1, K2, K3, K4, K5, K6, K7⟩
  subst hD
  isplitl [H2]; · iexact H2
  isplitl [H4]; · iexact H4
  unfold busy
  isplitl [HA]; · iexact HA
  isplitl [HX]; · iexact HX
  isplitl [K0]; · iexists f0; iexact K0
  isplitl [K1]; · iexists f1; iexact K1
  isplitl [K2]; · iexists f2; iexact K2
  isplitl [K3]; · iexists f3; iexact K3
  isplitl [K4]; · iexists f4; iexact K4
  isplitl [K5]; · iexists f5; iexact K5
  isplitl [K6]; · iexists f6; iexact K6
  iexists f7; iexact K7

/-- A later one of the SSD half; -/
theorem stepB (I : ℕ) (h1 : ¬ k0_cond1 i = 1#1) (h2 : inSsd i) (h3 : ¬ inLru i) (h4 : ¬ k0_cond4 i = 1#1) :
    iprop(heldP c arg2 g2 ∗ heldP c arg4 g4 ∗ busy c X I D)
    ⊢ wp frame (wpE (defs₀ (F := F)) Variants.none (c : Thread nD τ) none) Set.univ (bodyG i arg2 harg2 arg3 harg3 arg4 harg4 arg6 harg6 arg7 harg7)
      (fun _ => iprop(heldP c arg2 g2 ∗ heldP c arg4 g4
        ∗ busy c X I (accAdd (lhsS (arg2.view.read (Elt F) g2)) (arg4.view.read (Elt F) g4) D))) := by
  unfold busy
  iintro ⟨H2, H4, HA, HK⟩
  ihave Hw := (runB c i arg2 harg2 arg3 harg3 arg4 harg4 arg6 harg6 arg7 harg7 g2 g4 (aM.view.rep D) h1 h2 h3 h4) $$ [H2 H4 HA]
  · isplitl [H2]; · iexact H2
    isplitl [H4]; · iexact H4
    iexact HA
  iapply (wp_wand_r frame (wpE (defs₀ (F := F)) Variants.none (c : Thread nD τ) none) Set.univ)
  isplitl [Hw]; · iexact Hw
  iintro %_ ⟨H2, H4, ⟨%D', %hD, HA⟩⟩
  rw [rep_read] at hD
  subst hD
  isplitl [H2]; · iexact H2
  isplitl [H4]; · iexact H4
  isplitl [HA]; · iexact HA
  iexact HK

/-- one of the recurrent half, the last apart. -/
theorem stepC (I : ℕ) (h1 : ¬ k0_cond1 i = 1#1) (h2 : ¬ inSsd i) (h3 : inLru i) (h4 : ¬ k0_cond4 i = 1#1) :
    iprop(heldP c arg3 g3 ∗ heldP c arg4 g4 ∗ busy c X I D)
    ⊢ wp frame (wpE (defs₀ (F := F)) Variants.none (c : Thread nD τ) none) Set.univ (bodyG i arg2 harg2 arg3 harg3 arg4 harg4 arg6 harg6 arg7 harg7)
      (fun _ => iprop(heldP c arg3 g3 ∗ heldP c arg4 g4
        ∗ busy c X I (accAdd (lhsL (arg3.view.read (Elt F) g3)) (arg4.view.read (Elt F) g4) D))) := by
  unfold busy
  iintro ⟨H3, H4, HA, HK⟩
  ihave Hw := (runC c i arg2 harg2 arg3 harg3 arg4 harg4 arg6 harg6 arg7 harg7 g3 g4 (aM.view.rep D) h1 h2 h3 h4) $$ [H3 H4 HA]
  · isplitl [H3]; · iexact H3
    isplitl [H4]; · iexact H4
    iexact HA
  iapply (wp_wand_r frame (wpE (defs₀ (F := F)) Variants.none (c : Thread nD τ) none) Set.univ)
  isplitl [Hw]; · iexact Hw
  iintro %_ ⟨H3, H4, ⟨%D', %hD, HA⟩⟩
  rw [rep_read] at hD
  subst hD
  isplitl [H3]; · iexact H3
  isplitl [H4]; · iexact H4
  isplitl [HA]; · iexact HA
  iexact HK

/-! ## The last point of a row tile -/

theorem res_blocks (R : Buf (Elt F) (oM.view.loc (c : Thread nD τ))) :
    (heldP c oM R : sProp 𝕄) = bigSep (Ring.rangeSet 128 0 128) (resP c R) := by
  rw [Ring.rangeSet_univ]
  have h := Ring.pointsTo_blocks (nD := nD) (τ := τ) (sig := sig) (Ix := Unit) (Val := Elt F) (Name := ℕ) (U := Pipeline.UD sig nD τ) (Lvl := ℕ) (ℓ := oM.view.loc (c : Thread nD τ)) (q := fullShare) rowSet rowSet_disjoint rowSet_cover R
  unfold heldP
  rw [show oM.view.set = Finset.univ from View.set_whole _]
  refine h.trans (congrArg (bigSep Finset.univ) (funext fun j => ?_))
  unfold resP; rw [oBlk_set]; rfl

theorem res_agree (R R' : Buf (Elt F) (oM.view.loc (c : Thread nD τ))) (b : Fin 128) (h : ∀ y : S8192x4096.Idx, (y 0).val / 64 = b.val → R y = R' y) :
    (resP c R b : sProp 𝕄) = resP c R' b :=
  pointsTo_congr fun y hy => h y ((mem_rowSet b y).mp (oBlk_set b ▸ hy))

theorem outs_apart (G : Buf (Elt F) (oM.view.loc (c : Thread nD τ))) :
    (bigSep Finset.univ (outD c i G) : sProp 𝕄) ⊢ iprop((∃ A, heldP c aM A) ∗ bigSep (Ring.rangeSet 128 (pb i 0) (pb i 16)) (resP c G)) := by
  have hi : (i 0).val < 8 := (i 0).isLt
  have e : (bigSep (Ring.rangeSet 128 (pb i 0) (pb i 16)) (resP c G) : sProp 𝕄) = bigSep Finset.univ (fun j : Fin 16 => resP c G (bk (pb i j.val))) := by
    rw [Ring.bigSep_rangeSet_eq_range (lo := pb i 0) (hi := pb i 16) (by show 16 * (i 0).val + 16 ≤ 128; omega) (fun k => resP c G (bk (pb i k)))
      (fun k h => congrArg (resP c G) (Fin.ext (bk_val (p := pb i k) h))),
      show pb i 16 - pb i 0 = 16 by show 16 * (i 0).val + 16 - 16 * (i 0).val = 16; omega]
    exact (Ring.bigSep_fin_eq_range 16 _ (fun k => resP c G (bk (pb i k))) (fun _ _ => rfl)).symm
  have e2 : (bigSep Finset.univ (fun j : Fin 16 => iprop(∃ A' : Buf (Elt F) (aM.view.loc (c : Thread nD τ)), accP c A' (ak j.val))) : sProp 𝕄)
      ⊢ iprop(∃ A, heldP c aM A) := by
    have h := Ring.pointsTo_blocks_join_exists (nD := nD) (τ := τ) (sig := sig) (Ix := Unit) (Val := Elt F) (Name := ℕ) (U := Pipeline.UD sig nD τ) (Lvl := ℕ) (ℓ := aM.view.loc (c : Thread nD τ)) (q := fullShare) accSet accSet_disjoint accSet_cover (aM.view.rep (fun _ => Scalar.ofBits .f32 0#32))
    unfold heldP
    rw [show aM.view.set = Finset.univ from View.set_whole _]
    refine (Entails.of_eq (congrArg (bigSep Finset.univ) (funext fun j : Fin 16 => ?_))).trans h
    unfold accP; rw [aBlk_set, show ak j.val = j from Fin.ext (ak_val j.isLt)]; rfl
  rw [e]
  unfold outD
  refine (show _ ⊢ iprop(bigSep Finset.univ (fun j : Fin 16 => resP c G (bk (pb i j.val)))
    ∗ bigSep Finset.univ (fun j : Fin 16 => iprop(∃ A' : Buf (Elt F) (aM.view.loc (c : Thread nD τ)), accP c A' (ak j.val)))) from
      Entails.of_eq (Idealize.SL.BI.bigSep_sep _ _ _)).trans ?_
  iintro ⟨HR, HA⟩
  isplitl [HA]
  · iapply e2 $$ HA
  iexact HR

variable (R G R' : Buf (Elt F) (oM.view.loc (c : Thread nD τ)))
  (g6 : Buf (Elt F) (arg6.view.loc (c : Thread nD τ))) (g7 : Buf (Elt F) (arg7.view.loc (c : Thread nD τ)))

theorem stepD (h1 : ¬ k0_cond1 i = 1#1) (h2 : ¬ inSsd i) (h3 : inLru i) (h4 : k0_cond4 i = 1#1)
    (hG : ∀ j : ℕ, j < 16 → (oBlk (bk (pb i j))).view.read (Elt F) G
      = outW ((aBlk (ak j)).view.read (Elt F) (aM.view.rep (accAdd (lhsL (arg3.view.read (Elt F) g3)) (arg4.view.read (Elt F) g4) D)))
          ((xBlk (bk (pb i j))).view.read (Elt F) X) (rowR c arg6 g6) (rowR c arg7 g7))
    (hlo : ∀ y : S8192x4096.Idx, (y 0).val / 64 < 16 * (i 0).val → R y = R' y)
    (hmid : ∀ y : S8192x4096.Idx, 16 * (i 0).val ≤ (y 0).val / 64 → (y 0).val / 64 < 16 * (i 0).val + 16 → G y = R' y)
    (hhi : ∀ y : S8192x4096.Idx, 16 * (i 0).val + 16 ≤ (y 0).val / 64 → R y = R' y) :
    iprop(heldP c arg3 g3 ∗ heldP c arg4 g4 ∗ rowP c arg6 g6 ∗ rowP c arg7 g7 ∗ (∃ W, owes (c : Thread nD τ) 0 W)
      ∗ busy c X (i 0).val D ∗ semVal ((c : Thread nD τ), SemLoc.dma cc0_scratch3.sem) 0 ∗ heldP c oM R)
    ⊢ wp frame (wpE (defs₀ (F := F)) Variants.none (c : Thread nD τ) none) Set.univ (bodyG i arg2 harg2 arg3 harg3 arg4 harg4 arg6 harg6 arg7 harg7)
      (fun _ => iprop(heldP c arg3 g3 ∗ heldP c arg4 g4 ∗ rowP c arg6 g6 ∗ rowP c arg7 g7 ∗ (∃ W, owes (c : Thread nD τ) 0 W)
        ∗ idle c X ∗ semVal ((c : Thread nD τ), SemLoc.dma cc0_scratch3.sem) 0 ∗ heldP c oM R')) := by
  have hi : (i 0).val < 8 := (i 0).isLt
  have eR : (heldP c oM R : sProp 𝕄) = iprop(bigSep (Ring.rangeSet 128 (pb i 0) (pb i 16)) (resP c R)
      ∗ (bigSep (Ring.rangeSet 128 0 (pb i 0)) (resP c R') ∗ bigSep (Ring.rangeSet 128 (pb i 16) 128) (resP c R'))) := by
    rw [res_blocks, Ring.bigSep_rangeSet_take (NB := 128) (Φ := resP c R) (Nat.zero_le (pb i 0)) (by show 16 * (i 0).val + 0 ≤ 16 * (i 0).val + 16; omega) (by show 16 * (i 0).val + 16 ≤ 128; omega),
      Idealize.SL.BI.bigSep_congr (s := Ring.rangeSet 128 0 (pb i 0)) (Ψ := resP c R') (fun b hb => res_agree c R R' b fun y hy => hlo y (by rw [hy]; exact ((Ring.mem_rangeSet 0 (pb i 0) b).mp hb).2)),
      Idealize.SL.BI.bigSep_congr (s := Ring.rangeSet 128 (pb i 16) 128) (Ψ := resP c R') (fun b hb => res_agree c R R' b fun y hy => hhi y (by rw [hy]; exact ((Ring.mem_rangeSet (pb i 16) 128 b).mp hb).1))]
  have eR' : (heldP c oM R' : sProp 𝕄) = iprop(bigSep (Ring.rangeSet 128 (pb i 0) (pb i 16)) (resP c G)
      ∗ (bigSep (Ring.rangeSet 128 0 (pb i 0)) (resP c R') ∗ bigSep (Ring.rangeSet 128 (pb i 16) 128) (resP c R'))) := by
    rw [res_blocks, Ring.bigSep_rangeSet_take (NB := 128) (Φ := resP c R') (Nat.zero_le (pb i 0)) (by show 16 * (i 0).val + 0 ≤ 16 * (i 0).val + 16; omega) (by show 16 * (i 0).val + 16 ≤ 128; omega),
      Idealize.SL.BI.bigSep_congr (s := Ring.rangeSet 128 (pb i 0) (pb i 16)) (Φ := resP c R') (Ψ := resP c G) (fun b hb => (res_agree c G R' b fun y hy => hmid y (by rw [hy]; exact ((Ring.mem_rangeSet (pb i 0) (pb i 16) b).mp hb).1) (by rw [hy]; exact ((Ring.mem_rangeSet (pb i 0) (pb i 16) b).mp hb).2)).symm)]
  have e0 : ∀ p, p < 8 → (role c X i p : sProp 𝕄) = iprop(∃ f, flightP c X (sl p) (bk (pb i p)) f) := fun p hp => if_pos (by omega)
  have e1 : ∀ p, (role c X i (p + 16) : sProp 𝕄) = iprop((∃ f, slotP c (sl (p + 16)) f) ∗ cellP c (sl (p + 16))) := fun p => if_neg (by omega)
  have hA : accLast c arg3 arg4 g3 g4 (aM.view.rep D) = aM.view.rep (accAdd (lhsL (arg3.view.read (Elt F) g3)) (arg4.view.read (Elt F) g4) D) := by
    unfold accLast; rw [rep_read]
  rw [eR, eR']
  unfold busy
  iintro ⟨H3, H4, H6, H7, HO, ⟨HA, HX, K0, K1, K2, K3, K4, K5, K6, K7⟩, HC, ⟨HR, HRs⟩⟩
  ihave Hw := (runD (c := c) (i := i) (arg2 := arg2) (harg2 := harg2) (arg3 := arg3) (harg3 := harg3) (arg4 := arg4) (harg4 := harg4) (arg6 := arg6) (harg6 := harg6) (arg7 := arg7) (harg7 := harg7) (G := G) (g3 := g3) (g4 := g4) (A := aM.view.rep D) (X := X) (R := R) (g6 := g6) (g7 := g7) h1 h2 h3 h4 (by rw [hA]; exact hG))
    $$ [H3 H4 H6 H7 HO HA HX K0 K1 K2 K3 K4 K5 K6 K7 HC HR]
  · rw [e0 0 (by decide), e0 1 (by decide), e0 2 (by decide), e0 3 (by decide), e0 4 (by decide), e0 5 (by decide), e0 6 (by decide), e0 7 (by decide),
      show min (pb i 0 + 8) (pb i 16) = pb i 0 + 8 from Nat.min_eq_left (by show 16 * (i 0).val + 0 + 8 ≤ 16 * (i 0).val + 16; omega)]
    isplitl [H3]; · iexact H3
    isplitl [H4]; · iexact H4
    isplitl [HA]; · iexact HA
    isplitl [H6]; · iexact H6
    isplitl [H7]; · iexact H7
    isplitl [HO]; · iexact HO
    isplitl [HX]; · iexact HX
    isplitl [HR]; · iexact HR
    isplitl [HC]; · iexact HC
    isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  iapply (wp_wand_r frame (wpE (defs₀ (F := F)) Variants.none (c : Thread nD τ) none) Set.univ)
  isplitl [Hw]; · iexact Hw
  rw [show min (pb i 16 + 8) (pb i 16) = pb i 16 from Nat.min_eq_right (Nat.le_add_right _ _), homeS_self,
    e1 0, e1 1, e1 2, e1 3, e1 4, e1 5, e1 6, e1 7]
  iintro %_ ⟨H3, H4, H6, H7, HO, HX, ⟨HC, HD⟩, K0, K1, K2, K3, K4, K5, K6, K7⟩
  ihave HD' := (outs_apart c i G) $$ HD
  icases HD' with ⟨HA, HR⟩
  isplitl [H3]; · iexact H3
  isplitl [H4]; · iexact H4
  isplitl [H6]; · iexact H6
  isplitl [H7]; · iexact H7
  isplitl [HO]; · iexact HO
  isplitl [HA HX K0 K1 K2 K3 K4 K5 K6 K7]
  · unfold idle
    isplitl [HA]; · iexact HA
    isplitl [HX]; · iexact HX
    isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  isplitl [HC]; · iexact HC
  isplitl [HR]; · iexact HR
  iexact HRs

end

end Cert.KernelOutIdeal.Out

end
-- ==== Proof.OutRun.lean ====
module

public import proofs.«01_k».proof.Proof.OutSteps
public import Idealize.ShloMosaic.Lib.Pipeline.FrameValue

@[expose] public section

set_option maxRecDepth 16384
set_option backward.isDefEq.respectTransparency.types false

noncomputable section

namespace Cert.KernelOutIdeal.Out

open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Pipeline (Dat Cfg Window BodyObligation cellOf)
open Cert.KernelOutIdeal.Gen Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The grid's points -/

theorem co0 : ∀ t : Fin cfg0.N, (grid0.coords t 0).val = t.val / 8 := by decide +kernel
theorem cond1_iff : ∀ t : Fin cfg0.N, k0_cond1 (grid0.coords t) = 1#1 ↔ t.val % 8 = 0 := by decide +kernel
theorem inSsd_iff : ∀ t : Fin cfg0.N, inSsd (grid0.coords t) ↔ 0 < t.val % 8 ∧ t.val % 8 < 4 := by decide +kernel
theorem inLru_iff : ∀ t : Fin cfg0.N, inLru (grid0.coords t) ↔ 4 ≤ t.val % 8 := by decide +kernel
theorem cond4_iff : ∀ t : Fin cfg0.N, k0_cond4 (grid0.coords t) = 1#1 ↔ t.val % 8 = 7 := by decide +kernel
theorem pt_lt (t : Fin cfg0.N) : t.val < 64 := t.isLt
/-- Point `n`. -/
def pt (n : ℕ) : Fin cfg0.N := (⟨n % 64, Nat.mod_lt _ (by decide)⟩ : Fin 64)
theorem pt_val (t : Fin cfg0.N) : pt t.val = t := Fin.ext (Nat.mod_eq_of_lt (pt_lt t))

/-! ## What is held when -/

/-- The blocks of the five windows at a point. -/
abbrev inS (t : Fin cfg0.N) : Vec F S1024x1024 .bf16 := iblk m c 0 t
abbrev inL (t : Fin cfg0.N) : Vec F S8x1024x128 .f32 := iblk m c 1 t
abbrev inW (t : Fin cfg0.N) : Vec F S1024x4096 .bf16 := iblk m c 2 t
abbrev inG (t : Fin cfg0.N) : Vec F S1x4096 .f32 := iblk m c 3 t
abbrev inB (t : Fin cfg0.N) : Vec F S1x4096 .f32 := iblk m c 4 t

/-- The accumulator after point `n`. -/
def accUp : ℕ → Vec F S1024x4096 .f32
  | 0 => accNew (lhsS (inS m c (pt 0))) (inW m c (pt 0))
  | n + 1 => if (n + 1) % 8 = 0 then accNew (lhsS (inS m c (pt (n + 1)))) (inW m c (pt (n + 1)))
    else if (n + 1) % 8 < 4 then accAdd (lhsS (inS m c (pt (n + 1)))) (inW m c (pt (n + 1))) (accUp n)
    else accAdd (lhsL (inL m c (pt (n + 1)))) (inW m c (pt (n + 1))) (accUp n)
theorem accUp_new (n : ℕ) (h : n % 8 = 0) : accUp m c n = accNew (lhsS (inS m c (pt n))) (inW m c (pt n)) := by
  cases n with
  | zero => rfl
  | succ n => exact if_pos h
theorem accUp_ssd (n : ℕ) (h : 0 < n % 8) (h' : n % 8 < 4) : accUp m c n = accAdd (lhsS (inS m c (pt n))) (inW m c (pt n)) (accUp m c (n - 1)) := by
  cases n with
  | zero => exact absurd h (by decide)
  | succ n => exact (if_neg (by omega)).trans (if_pos h')
theorem accUp_lru (n : ℕ) (h : 4 ≤ n % 8) : accUp m c n = accAdd (lhsL (inL m c (pt n))) (inW m c (pt n)) (accUp m c (n - 1)) := by
  cases n with
  | zero => exact absurd h (by decide)
  | succ n => exact (if_neg (by omega)).trans (if_neg (by omega))

/-- The scale or the shift as a row tile loads it. -/
abbrev rowOf (g : Vec F S1x4096 .f32) : Vec F S1x4096 .f32 := View.ld g (Rect.unit (s := S1x4096) ![0, 0] S1x4096.size inb_S1x4096_S1x4096_0_0)
/-- Block `b` of the result. -/
def resB (b : ℕ) : Vec F S64x4096 .f32 :=
  outW ((aBlk (ak b)).view.read (Elt F) (aM.view.rep (accUp m c (8 * (b / 16) + 7)))) ((xBlk (bk b)).view.read (Elt F) (V m c main_v0))
    (rowOf (inG m c (pt (8 * (b / 16) + 7)))) (rowOf (inB m c (pt (8 * (b / 16) + 7))))
/-- The result. -/
def final : Vec F S8192x4096 .f32 := fun y => resB m c ((y 0).val / 64) (ix2 ⟨(y 0).val % 64, Nat.mod_lt _ (by decide)⟩ (y 1))
/-- The result's buffer before point `n`: the row tiles done. -/
def resUp (n : ℕ) : Buf (Elt F) (oM.view.loc (c : Thread nD τ)) := (fun y => if (y 0).val < 1024 * (n / 8) then final m c y else (V m c main_v3 : Vec F S8192x4096 .f32) y : Vec F S8192x4096 .f32)
/-- The invariant before point `n`. -/
def stateAt (n : ℕ) : sProp 𝕄 :=
  iprop((if n % 8 = 0 then idle c (V m c main_v0) else busy c (V m c main_v0) (n / 8) (accUp m c (n - 1)))
    ∗ semVal ((c : Thread nD τ), SemLoc.dma cc0_scratch3.sem) 0 ∗ heldP c oM (resUp m c n) ∗ ∃ r, prngReg c r)

theorem oBlk_read (b : Fin 128) (f : Vec F S8192x4096 .f32) (z : S64x4096.Idx) :
    (oBlk b).view.read (Elt F) f z = f (ix2 ⟨64 * b.val + (z 0).val, by have := b.isLt; have : (z 0).val < 64 := (z 0).isLt; omega⟩ (z 1)) := by
  unfold oBlk
  refine (show _ = f ((Rect.unit (s := S8192x4096) (rowOff b) S64x4096.size (rowOff_inb b)).emb z) from rfl).trans (congrArg f (funext fun a => ?_))
  fin_cases a
  · exact Fin.ext (by rw [Rect.emb_apply]; show 64 * b.val + 1 * (z 0).val = 64 * b.val + (z 0).val; omega)
  · exact Fin.ext (by rw [Rect.emb_apply]; show 0 + 1 * (z 1).val = (z 1).val; omega)

theorem final_read (t : Fin cfg0.N) (h : t.val % 8 = 7) (j : ℕ) (hj : j < 16) :
    (oBlk (bk (pb (grid0.coords t) j))).view.read (Elt F) (final m c)
      = outW ((aBlk (ak j)).view.read (Elt F) (aM.view.rep (accUp m c t.val))) ((xBlk (bk (pb (grid0.coords t) j))).view.read (Elt F) (V m c main_v0))
          (rowOf (inG m c t)) (rowOf (inB m c t)) := by
  have ht := pt_lt t
  have e : pb (grid0.coords t) j = 16 * (t.val / 8) + j := by rw [← co0 t]
  rw [e]
  have h128 : 16 * (t.val / 8) + j < 128 := by omega
  have e1 : 8 * ((16 * (t.val / 8) + j) / 16) + 7 = t.val := by omega
  funext z
  have hz : (z 0).val < 64 := (z 0).isLt
  rw [oBlk_read]
  unfold final
  have e2 : (64 * (bk (16 * (t.val / 8) + j)).val + (z 0).val) / 64 = 16 * (t.val / 8) + j := by rw [bk_val h128]; omega
  have e3 : (64 * (bk (16 * (t.val / 8) + j)).val + (z 0).val) % 64 = (z 0).val := by omega
  refine (congr (congrArg (resB m c) e2) (show _ = z from funext fun a => ?_)).trans ?_
  · fin_cases a
    · exact Fin.ext e3
    · rfl
  unfold resB
  rw [e1, pt_val, show ak (16 * (t.val / 8) + j) = ak j from Fin.ext (by show (16 * (t.val / 8) + j) % 16 = j % 16; omega)]

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := stateAt m c t.val
  q _ := fullShare
  owed _ := 0

theorem A_eq (w : Fin cfg0.W) : (dats m 0 c).A w = V m c (Pipeline.arrRef spec0 w) := by dsimp only [dats]
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem before0 (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- What the body holds beside the windows, before point `n`. -/
abbrev restAt (n : ℕ) : sProp 𝕄 := iprop(stateAt m c n ∗ ∃ W, owes (c : Thread nD τ) 0 W)

section
variable (t : Fin cfg0.N)
  (g0 : Buf (Elt F) ((st0_0 t).view.loc (c : Thread nD τ))) (g1 : Buf (Elt F) ((st0_1 t).view.loc (c : Thread nD τ))) (g2 : Buf (Elt F) ((st0_2 t).view.loc (c : Thread nD τ)))
  (g3 : Buf (Elt F) ((st0_3 t).view.loc (c : Thread nD τ))) (g4 : Buf (Elt F) ((st0_4 t).view.loc (c : Thread nD τ)))
  (e0 : (st0_0 t).view.read (Elt F) g0 = inS m c t) (e1 : (st0_1 t).view.read (Elt F) g1 = inL m c t) (e2 : (st0_2 t).view.read (Elt F) g2 = inW m c t)
  (e3 : (st0_3 t).view.read (Elt F) g3 = inG m c t) (e4 : (st0_4 t).view.read (Elt F) g4 = inB m c t)

/-- The windows held. -/
abbrev winsP : sProp 𝕄 := iprop(heldP c (st0_0 t) g0 ∗ heldP c (st0_1 t) g1 ∗ heldP c (st0_2 t) g2 ∗ heldP c (st0_3 t) g3 ∗ heldP c (st0_4 t) g4)

theorem resUp_same (n : ℕ) (h : n % 8 ≠ 7) : resUp m c (n + 1) = resUp m c n := by
  unfold resUp; rw [show (n + 1) / 8 = n / 8 by omega]

include e0 e1 e2 e3 e4 in
theorem point : iprop(restAt m c t.val ∗ winsP c t g0 g1 g2 g3 g4)
    ⊢ wp frame (wpE (defs₀ (F := F)) Variants.none (c : Thread nD τ) none) Set.univ (bodyAt0 t)
      (fun _ => iprop(restAt m c (t.val + 1) ∗ winsP c t g0 g1 g2 g3 g4)) := by
  have ht := pt_lt t
  have hc0 := co0 t
  have hp := pt_val t
  unfold restAt stateAt
  rcases Nat.eq_zero_or_pos (t.val % 8) with h0 | h0
  · have hn := accUp_new m c t.val h0
    rw [hp] at hn
    rw [if_pos h0, if_neg (show ¬ (t.val + 1) % 8 = 0 by omega), resUp_same m c t.val (by omega), Nat.add_sub_cancel, hn, show (t.val + 1) / 8 = (grid0.coords t 0).val by rw [hc0]; omega, ← e0, ← e2]
    iintro ⟨⟨⟨HI, HC, HR, Hg⟩, HO⟩, H0, H1, H2, H3, H4⟩
    ihave Hw := (stepA c (V m c main_v0) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
      (st0_3 t) (hstage0_3 ((cfg0.slots t 3).cast nbuf0_3)) (st0_4 t) (hstage0_4 ((cfg0.slots t 4).cast nbuf0_4)) g0 g2
      ((cond1_iff t).mpr h0) (fun h => by have := (inSsd_iff t).mp h; omega) (fun h => by have := (inLru_iff t).mp h; omega) (fun h => by have := (cond4_iff t).mp h; omega)) $$ [H0 H2 HI]
    · isplitl [H0]; · iexact H0
      isplitl [H2]; · iexact H2
      iexact HI
    iapply (wp_wand_r frame (wpE (defs₀ (F := F)) Variants.none (c : Thread nD τ) none) Set.univ)
    isplitl [Hw]; · iexact Hw
    iintro %_ ⟨H0, H2, HB⟩
    isplitl [HB HC HR Hg HO]
    · isplitl [HB HC HR Hg]
      · isplitl [HB]; · iexact HB
        isplitl [HC]; · iexact HC
        isplitl [HR]; · iexact HR
        iexact Hg
      iexact HO
    isplitl [H0]; · iexact H0
    isplitl [H1]; · iexact H1
    isplitl [H2]; · iexact H2
    isplitl [H3]; · iexact H3
    iexact H4
  rw [if_neg (show ¬ t.val % 8 = 0 by omega)]
  have n1 : ¬ k0_cond1 (grid0.coords t) = 1#1 := fun h => by have := (cond1_iff t).mp h; omega
  rcases Nat.lt_or_ge (t.val % 8) 4 with h4 | h4
  · have hn := accUp_ssd m c t.val h0 h4
    rw [hp] at hn
    rw [if_neg (show ¬ (t.val + 1) % 8 = 0 by omega), resUp_same m c t.val (by omega), Nat.add_sub_cancel, hn, show (t.val + 1) / 8 = t.val / 8 by omega, ← e0, ← e2]
    iintro ⟨⟨⟨HI, HC, HR, Hg⟩, HO⟩, H0, H1, H2, H3, H4⟩
    ihave Hw := (stepB c (V m c main_v0) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
      (st0_3 t) (hstage0_3 ((cfg0.slots t 3).cast nbuf0_3)) (st0_4 t) (hstage0_4 ((cfg0.slots t 4).cast nbuf0_4)) g0 g2 (accUp m c (t.val - 1)) (t.val / 8)
      n1 ((inSsd_iff t).mpr ⟨h0, h4⟩) (fun h => by have := (inLru_iff t).mp h; omega) (fun h => by have := (cond4_iff t).mp h; omega)) $$ [H0 H2 HI]
    · isplitl [H0]; · iexact H0
      isplitl [H2]; · iexact H2
      iexact HI
    iapply (wp_wand_r frame (wpE (defs₀ (F := F)) Variants.none (c : Thread nD τ) none) Set.univ)
    isplitl [Hw]; · iexact Hw
    iintro %_ ⟨H0, H2, HB⟩
    isplitl [HB HC HR Hg HO]
    · isplitl [HB HC HR Hg]
      · isplitl [HB]; · iexact HB
        isplitl [HC]; · iexact HC
        isplitl [HR]; · iexact HR
        iexact Hg
      iexact HO
    isplitl [H0]; · iexact H0
    isplitl [H1]; · iexact H1
    isplitl [H2]; · iexact H2
    isplitl [H3]; · iexact H3
    iexact H4
  have hn := accUp_lru m c t.val h4
  rw [hp] at hn
  have n2 : ¬ inSsd (grid0.coords t) := fun h => by have := (inSsd_iff t).mp h; omega
  have y3 := (inLru_iff t).mpr h4
  rcases Nat.lt_or_ge (t.val % 8) 7 with h7 | h7
  · rw [if_neg (show ¬ (t.val + 1) % 8 = 0 by omega), resUp_same m c t.val (by omega), Nat.add_sub_cancel, hn, show (t.val + 1) / 8 = t.val / 8 by omega, ← e1, ← e2]
    iintro ⟨⟨⟨HI, HC, HR, Hg⟩, HO⟩, H0, H1, H2, H3, H4⟩
    ihave Hw := (stepC c (V m c main_v0) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
      (st0_3 t) (hstage0_3 ((cfg0.slots t 3).cast nbuf0_3)) (st0_4 t) (hstage0_4 ((cfg0.slots t 4).cast nbuf0_4)) g1 g2 (accUp m c (t.val - 1)) (t.val / 8)
      n1 n2 y3 (fun h => by have := (cond4_iff t).mp h; omega)) $$ [H1 H2 HI]
    · isplitl [H1]; · iexact H1
      isplitl [H2]; · iexact H2
      iexact HI
    iapply (wp_wand_r frame (wpE (defs₀ (F := F)) Variants.none (c : Thread nD τ) none) Set.univ)
    isplitl [Hw]; · iexact Hw
    iintro %_ ⟨H1, H2, HB⟩
    isplitl [HB HC HR Hg HO]
    · isplitl [HB HC HR Hg]
      · isplitl [HB]; · iexact HB
        isplitl [HC]; · iexact HC
        isplitl [HR]; · iexact HR
        iexact Hg
      iexact HO
    isplitl [H0]; · iexact H0
    isplitl [H1]; · iexact H1
    isplitl [H2]; · iexact H2
    isplitl [H3]; · iexact H3
    iexact H4
  have h77 : t.val % 8 = 7 := by omega
  have hG : ∀ j : ℕ, j < 16 → (oBlk (bk (pb (grid0.coords t) j))).view.read (Elt F) (final m c)
      = outW ((aBlk (ak j)).view.read (Elt F) (aM.view.rep (accAdd (lhsL ((st0_1 t).view.read (Elt F) g1)) ((st0_2 t).view.read (Elt F) g2) (accUp m c (t.val - 1)))))
          ((xBlk (bk (pb (grid0.coords t) j))).view.read (Elt F) (V m c main_v0)) (rowR c (st0_3 t) g3) (rowR c (st0_4 t) g4) := fun j hj => by
    rw [final_read m c t h77 j hj, hn, e1, e2, ← e3, ← e4]; rfl
  rw [if_pos (show (t.val + 1) % 8 = 0 by omega), ← hc0]
  iintro ⟨⟨⟨HI, HC, HR, Hg⟩, HO⟩, H0, H1, H2, H3, H4⟩
  ihave Hw := (stepD c (V m c main_v0) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
      (st0_3 t) (hstage0_3 ((cfg0.slots t 3).cast nbuf0_3)) (st0_4 t) (hstage0_4 ((cfg0.slots t 4).cast nbuf0_4)) g1 g2 (accUp m c (t.val - 1))
      (resUp m c t.val) (final m c) (resUp m c (t.val + 1)) g3 g4 n1 n2 y3 ((cond4_iff t).mpr h77) hG
      (fun y hy => by rw [hc0] at hy; unfold resUp; rw [if_pos (show (y 0).val < 1024 * (t.val / 8) by omega), if_pos (show (y 0).val < 1024 * ((t.val + 1) / 8) by omega)])
      (fun y hy hy' => by rw [hc0] at hy hy'; unfold resUp; rw [if_pos (show (y 0).val < 1024 * ((t.val + 1) / 8) by omega)])
      (fun y hy => by rw [hc0] at hy; unfold resUp; rw [if_neg (show ¬ (y 0).val < 1024 * (t.val / 8) by omega), if_neg (show ¬ (y 0).val < 1024 * ((t.val + 1) / 8) by omega)]))
    $$ [H1 H2 H3 H4 HO HI HC HR]
  · isplitl [H1]; · iexact H1
    isplitl [H2]; · iexact H2
    isplitl [H3]; · iexact H3
    isplitl [H4]; · iexact H4
    isplitl [HO]; · iexact HO
    isplitl [HI]; · iexact HI
    isplitl [HC]; · iexact HC
    iexact HR
  iapply (wp_wand_r frame (wpE (defs₀ (F := F)) Variants.none (c : Thread nD τ) none) Set.univ)
  isplitl [Hw]; · iexact Hw
  iintro %_ ⟨H1, H2, H3, H4, HO, HI, HC, HR⟩
  isplitl [HI HC HR Hg HO]
  · isplitl [HI HC HR Hg]
    · isplitl [HI]; · iexact HI
      isplitl [HC]; · iexact HC
      isplitl [HR]; · iexact HR
      iexact Hg
    iexact HO
  isplitl [H0]; · iexact H0
  isplitl [H1]; · iexact H1
  isplitl [H2]; · iexact H2
  isplitl [H3]; · iexact H3
  iexact H4
end

/-! ## The body obligation -/

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = stateAt m c t.val from rfl, show (dats m 0 c).Φ t.succ = stateAt m c (t.val + 1) from rfl,
    after0, after1, after2, after3, after4]
  unfold Dat.owesAt Pipeline.owesWithin owns
  rw [show (dats m 0 c).owed t.castSucc = 0 from rfl, show (dats m 0 c).owed t.succ = 0 from rfl]
  iintro ⟨HS, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩⟩
  replace e0 := e0.trans (before0 m c t d0)
  replace e1 := e1.trans (before1 m c t d1)
  replace e2 := e2.trans (before2 m c t d2)
  replace e3 := e3.trans (before3 m c t d3)
  replace e4 := e4.trans (before4 m c t d4)
  ihave Hw := (point m c t g0 g1 g2 g3 g4 e0 e1 e2 e3 e4) $$ [HS HW H0 H1 H2 H3 H4]
  · isplitl [HS HW]
    · isplitl [HS]; · iexact HS
      iexists W; iexact HW
    isplitl [H0]; · iexact H0
    isplitl [H1]; · iexact H1
    isplitl [H2]; · iexact H2
    isplitl [H3]; · iexact H3
    iexact H4
  iapply (wp_wand_r frame (wpE (defs₀ (F := F)) Variants.none (c : Thread nD τ) none) Set.univ)
  isplitl [Hw]; · iexact Hw
  iintro %_ ⟨⟨HS, ⟨%W', HW⟩⟩, H0, H1, H2, H3, H4⟩
  isplitl [HS]; · iexact HS
  isplitl [HW]
  · iexists W'; isplitr; · ipureintro; exact fun _ _ => Or.inl trivial
    iexact HW
  isplitl [H0]; · iexists g0; isplitr; · ipureintro; exact e0
                  iexact H0
  isplitl [H1]; · iexists g1; isplitr; · ipureintro; exact e1
                  iexact H1
  isplitl [H2]; · iexists g2; isplitr; · ipureintro; exact e2
                  iexact H2
  isplitl [H3]; · iexists g3; isplitr; · ipureintro; exact e3
                  iexact H3
  iexists g4; isplitr; · ipureintro; exact e4
  iexact H4

theorem defs₀_row (t : Fin cfg0.N) : defs₀ (F := F) .tc cfg0.body (cfg0.bodyArgs t (cfg0.slots t)) = bodyAt0 t := by
  unfold defs₀; rw [Defs.onTc_tc]
theorem body_obligation : BodyObligation (dats (F := F) m 0 c) (defs₀ (F := F)) Variants.none () Set.univ := fun t => by
  rw [bigSep_W0, bigSep_W0, defs₀_row]
  exact triple_restated (sound_body m c t) rfl .rfl fun _ => .rfl

end Cert.KernelOutIdeal.Out

end
-- ==== Proof.OutFrame.lean ====
module

public import proofs.«01_k».proof.Proof.OutRun
public import proofs.«01_k».proof.Proof.Gen.KernelOutIdeal.Launch
public import proofs.«01_k».proof.Proof.Gen.KernelOutIdeal.Frame

@[expose] public section

set_option maxRecDepth 16384
set_option backward.isDefEq.respectTransparency.types false

noncomputable section

namespace Cert.KernelOutIdeal.Out

open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem
open Idealize.ShloMosaic.Pipeline (Dat Cfg Window BodyObligation cellOf)
open Cert.KernelOutIdeal.Gen Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The buffers of the launch, block by block -/

theorem homes (X : Buf (Elt F) (xM.view.loc (c : Thread nD τ))) :
    ((xM.view.loc (c : Thread nD τ)) ↦{fullShare} X : sProp 𝕄) = bigSep Finset.univ (homeP c X) := by
  have h := Ring.pointsTo_blocks (nD := nD) (τ := τ) (sig := sig) (Ix := Unit) (Val := Elt F) (Name := ℕ) (U := Pipeline.UD sig nD τ) (Lvl := ℕ) (ℓ := xM.view.loc (c : Thread nD τ)) (q := fullShare) rowSet rowSet_disjoint rowSet_cover X
  refine h.trans (congrArg (bigSep Finset.univ) (funext fun b => ?_))
  unfold homeP; rw [xBlk_set]; rfl
theorem held_whole {sp : Space} {s : Shape} {e : EltTy} (M : Memref sig .tc sp s e) (hM : M.view.set = Finset.univ) (g : Buf (Elt F) (M.view.loc (c : Thread nD τ))) :
    (heldP c M g : sProp 𝕄) = ((M.view.loc (c : Thread nD τ)) ↦{fullShare} g : sProp 𝕄) := by
  unfold heldP; rw [hM]
theorem slots8 (Φ : Fin 8 → sProp 𝕄) : bigSep Finset.univ Φ = iprop(Φ 0 ∗ Φ 1 ∗ Φ 2 ∗ Φ 3 ∗ Φ 4 ∗ Φ 5 ∗ Φ 6 ∗ Φ 7) :=
  Idealize.SL.BI.bigSep_univ_eq_bigSepL [0, 1, 2, 3, 4, 5, 6, 7] (by decide) (by decide) Φ
theorem slot_eq (s : Fin 8) (f : Buf (Elt F) (rM.view.loc (c : Thread nD τ))) :
    (((rM.view.loc (c : Thread nD τ)) ↦[slotSet s]{fullShare} f) : sProp 𝕄) = slotP c s f := by
  unfold slotP; rw [rslot_set]; rfl
theorem ring_split (f : Buf (Elt F) (rM.view.loc (c : Thread nD τ))) :
    ((rM.view.loc (c : Thread nD τ)) ↦{fullShare} f : sProp 𝕄)
      ⊢ iprop(slotP c 0 f ∗ slotP c 1 f ∗ slotP c 2 f ∗ slotP c 3 f ∗ slotP c 4 f ∗ slotP c 5 f ∗ slotP c 6 f ∗ slotP c 7 f) := by
  have h := Ring.pointsTo_blocks (nD := nD) (τ := τ) (sig := sig) (Ix := Unit) (Val := Elt F) (Name := ℕ) (U := Pipeline.UD sig nD τ) (Lvl := ℕ) (ℓ := rM.view.loc (c : Thread nD τ)) (q := fullShare) slotSet slotSet_disjoint slotSet_cover f
  rw [h.trans (congrArg (bigSep Finset.univ) (funext fun s => slot_eq c s f)), slots8]
theorem slot_some (s : Fin 8) : (iprop(∃ f, slotP c s f) : sProp 𝕄) ⊢ iprop(∃ f : Buf (Elt F) (rM.view.loc (c : Thread nD τ)), ((rM.view.loc (c : Thread nD τ)) ↦[slotSet s]{fullShare} f)) := by
  iintro ⟨%f, H⟩; iexists f; iapply (Entails.of_eq (slot_eq c s f).symm); iexact H
theorem ring_join (f₀ : Buf (Elt F) (rM.view.loc (c : Thread nD τ))) :
    iprop((∃ f, slotP c 0 f) ∗ (∃ f, slotP c 1 f) ∗ (∃ f, slotP c 2 f) ∗ (∃ f, slotP c 3 f) ∗ (∃ f, slotP c 4 f) ∗ (∃ f, slotP c 5 f) ∗ (∃ f, slotP c 6 f) ∗ (∃ f, slotP c 7 f))
      ⊢ iprop(∃ f, ((rM.view.loc (c : Thread nD τ)) ↦{fullShare} f : sProp 𝕄)) := by
  have h := Ring.pointsTo_blocks_join_exists (nD := nD) (τ := τ) (sig := sig) (Ix := Unit) (Val := Elt F) (Name := ℕ) (U := Pipeline.UD sig nD τ) (Lvl := ℕ) (ℓ := rM.view.loc (c : Thread nD τ)) (q := fullShare) slotSet slotSet_disjoint slotSet_cover f₀
  have e : (bigSep Finset.univ (fun s : Fin 8 => iprop(∃ f, slotP c s f)) : sProp 𝕄)
      ⊢ bigSep Finset.univ (fun s : Fin 8 => iprop(∃ f, ((rM.view.loc (c : Thread nD τ)) ↦[slotSet s]{fullShare} f))) :=
    Idealize.SL.BI.bigSep_mono (s := Finset.univ) fun s _ => slot_some c s
  rw [slots8] at e
  exact e.trans h

/-! ## The launch -/

abbrev osem0 : Fin 9 → SemLoc sig := fun j =>
  ![SemLoc.dma (csm 0).sem, .dma (csm 1).sem, .dma (csm 2).sem, .dma (csm 3).sem, .dma (csm 4).sem, .dma (csm 5).sem, .dma (csm 6).sem, .dma (csm 7).sem,
    .dma cc0_scratch3.sem] j
theorem ownSemFacts0 : Pipeline.OwnSemFacts spec0 osem0 := by decide
/-- The residual input is read by the body's own copies, -/
abbrev H0 : Finset (Ref sig .tc) := {main_v0}
/-- and the result written by them. -/
abbrev R0 : Finset (Ref sig .tc) := {main_v3}
theorem H0_sub : H0 ⊆ Pipeline.restRefs sig spec0 := by decide
theorem R0_sub : R0 ⊆ Pipeline.restRefs sig spec0 \ H0 := by decide
/-- What the written buffer holds at the end. -/
def G (c : Dev nD) : (b : Ref sig .tc) → Buf (Elt F) ((c : Thread nD τ).loc b) := Function.update (V m c) main_v3 (final m c)
theorem G_res : G m c main_v3 = final m c := Function.update_self ..

theorem owns9 : (Pipeline.ownSems0 (Ix := Unit) (Name := ℕ) (U := Pipeline.UD sig nD τ) (Lvl := ℕ) (Val := Elt F) (τ := τ) osem0 c : sProp 𝕄)
    = iprop(cellP c 0 ∗ cellP c 1 ∗ cellP c 2 ∗ cellP c 3 ∗ cellP c 4 ∗ cellP c 5 ∗ cellP c 6 ∗ cellP c 7 ∗ semVal ((c : Thread nD τ), SemLoc.dma cc0_scratch3.sem) 0) :=
  Pipeline.ownSems0_eq_of_list c osem0 [0, 1, 2, 3, 4, 5, 6, 7, 8] (by decide) (by decide)

theorem oM_set : oM.view.set = Finset.univ := View.set_whole _
theorem aM_set : aM.view.set = Finset.univ := View.set_whole _

theorem resUp_zero : resUp m c 0 = V m c main_v3 := by
  unfold resUp; funext y; exact if_neg (by omega)
theorem resUp_last : resUp m c 64 = final m c := by
  unfold resUp; funext y; have h : (y 0).val < 8192 := (y 0).isLt; exact if_pos (by omega)

theorem hin : Pipeline.ΦDRG osem0 spec0 H0 R0 (V m) (V m) c ⊢ stateAt m c 0 := by
  rw [Pipeline.ΦDRG_eq, scopedRest0_eq, owns9]
  unfold Pipeline.routed
  rw [Idealize.SL.BI.bigSep_eq_bigSepL_of_eq [main_v0] (by decide) (by decide), Idealize.SL.BI.bigSep_eq_bigSepL_of_eq [main_v3] (by decide) (by decide),
    Idealize.SL.BI.bigSepL_singleton, Idealize.SL.BI.bigSepL_singleton]
  unfold stateAt
  rw [if_pos (by decide), resUp_zero, held_whole c oM oM_set]
  unfold idle
  iintro ⟨⟨⟨%A, HA⟩, ⟨%f, Hf⟩⟩, Hg, ⟨C0, C1, C2, C3, C4, C5, C6, C7, C8⟩, HX, HR⟩
  ihave HS := (ring_split c f) $$ Hf
  icases HS with ⟨S0, S1, S2, S3, S4, S5, S6, S7⟩
  ihave HX' := (Entails.of_eq (homes c (V m c main_v0))) $$ HX
  isplitr [C8 HR Hg]
  · isplitl [HA]
    · iexists A; rw [held_whole c aM aM_set]; iexact HA
    isplitl [HX']; · iexact HX'
    isplitl [S0 C0]; · isplitl [S0]; · iexists f; iexact S0
                       iexact C0
    isplitl [S1 C1]; · isplitl [S1]; · iexists f; iexact S1
                       iexact C1
    isplitl [S2 C2]; · isplitl [S2]; · iexists f; iexact S2
                       iexact C2
    isplitl [S3 C3]; · isplitl [S3]; · iexists f; iexact S3
                       iexact C3
    isplitl [S4 C4]; · isplitl [S4]; · iexists f; iexact S4
                       iexact C4
    isplitl [S5 C5]; · isplitl [S5]; · iexists f; iexact S5
                       iexact C5
    isplitl [S6 C6]; · isplitl [S6]; · iexists f; iexact S6
                       iexact C6
    isplitl [S7]; · iexists f; iexact S7
    iexact C7
  isplitl [C8]; · iexact C8
  isplitl [HR]; · iexact HR
  iexact Hg

theorem hout : stateAt m c 64 ⊢ Pipeline.ΦDRG osem0 spec0 H0 R0 (V m) (G m) c := by
  rw [Pipeline.ΦDRG_eq, scopedRest0_eq, owns9]
  unfold Pipeline.routed
  rw [Idealize.SL.BI.bigSep_eq_bigSepL_of_eq [main_v0] (by decide) (by decide), Idealize.SL.BI.bigSep_eq_bigSepL_of_eq [main_v3] (by decide) (by decide),
    Idealize.SL.BI.bigSepL_singleton, Idealize.SL.BI.bigSepL_singleton]
  unfold stateAt
  rw [if_pos (by decide), resUp_last, held_whole c oM oM_set, G_res]
  unfold idle
  iintro ⟨⟨⟨%A, HA⟩, HX, ⟨⟨%f₀, S0⟩, C0⟩, ⟨S1, C1⟩, ⟨S2, C2⟩, ⟨S3, C3⟩, ⟨S4, C4⟩, ⟨S5, C5⟩, ⟨S6, C6⟩, ⟨S7, C7⟩⟩, C8, HR, Hg⟩
  ihave HF := (ring_join c f₀) $$ [S0 S1 S2 S3 S4 S5 S6 S7]
  · isplitl [S0]; · iexists f₀; iexact S0
    isplitl [S1]; · iexact S1
    isplitl [S2]; · iexact S2
    isplitl [S3]; · iexact S3
    isplitl [S4]; · iexact S4
    isplitl [S5]; · iexact S5
    isplitl [S6]; · iexact S6
    iexact S7
  ihave HX' := (Entails.of_eq (homes c (V m c main_v0)).symm) $$ HX
  ihave HA' := (Entails.of_eq (held_whole c aM aM_set A)) $$ HA
  isplitl [HA' HF]
  · isplitl [HA']; · iexists A; iexact HA'
    iexact HF
  isplitl [Hg]; · iexact Hg
  isplitl [C0 C1 C2 C3 C4 C5 C6 C7 C8]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    iexact C8
  isplitl [HX']; · iexact HX'
  iexact HR

theorem hmain (𝒱₀ : Variants) : Pipeline.HMain (Ix := Unit) (Name := ℕ) (U := Pipeline.UD sig nD τ) (Lvl := ℕ) cfgs 0 (defs₀ (F := F)) 𝒱₀ m (main (F := F)) (V m) :=
  Pipeline.hmain_prefix cfgs 0 defs₀ 𝒱₀ m main hostOps0 hostOps0_sub hostOps0_fresh main_chain

/-- Every schedule runs to the end, leaves the inputs as they were and every semaphore at rest, and leaves `final`. -/
theorem run : θ_run defs (onTc main) ⟨m, 0, ρ⟩ (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl) (howed := fun _ _ => rfl)
    (V := V m) (hmain := hmain m Variants.none) (hA := A_eq m) (G := G m) (hin := hin m) (hout := hout m)

theorem kept {r : PUnit × MemSt nD τ sig (Elt F)} (h : Pipeline.FramePostRG cfgs (dats m) 0 R0 (V m) (G m) r) :
    ∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := fun c => by
  have h' := h.toR c
  exact ⟨(h'.1 0).trans (((dats m 0 c).arrAt_in 0 rfl _).trans ((A_eq m c 0).trans (V_main_arg0 m c))),
    (h'.1 1).trans (((dats m 0 c).arrAt_in 1 rfl _).trans ((A_eq m c 1).trans (V_main_arg1 m c))),
    (h'.2 main_arg2 (Finset.mem_sdiff.mpr ⟨Pipeline.mem_restRefs_of main_arg2 (by decide) (by decide), by decide⟩)).trans (V_main_arg2 m c),
    (h'.2 main_arg3 (Finset.mem_sdiff.mpr ⟨Pipeline.mem_restRefs_of main_arg3 (by decide) (by decide), by decide⟩)).trans (V_main_arg3 m c),
    (h'.1 3).trans (((dats m 0 c).arrAt_in 3 rfl _).trans ((A_eq m c 3).trans (V_main_arg4 m c))),
    (h'.1 4).trans (((dats m 0 c).arrAt_in 4 rfl _).trans ((A_eq m c 4).trans (V_main_arg5 m c)))⟩

theorem frame : θ_run defs (onTc main) ⟨m, 0, ρ⟩ (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run _ _ _).mono (fun _ h => ⟨kept m h.1, h.2⟩) (run m ρ)

end Cert.KernelOutIdeal.Out

end
-- ==== Proof.OutValue.lean ====
module

public import proofs.«01_k».proof.Proof.OutFrame
public import proofs.«01_k».proof.Proof.Gen.ReferenceOutIdeal.Run
public import proofs.«01_k».proof.Proof.Gen.ReferenceOutIdeal.Read
public import Idealize.ShloMosaic.Lib.Pipeline.ValueKit
public import Idealize.ShloMosaic.Lib.Pointwise

@[expose] public section

set_option maxRecDepth 16384

noncomputable section

namespace Cert.KernelOutIdeal.Out

open Idealize.ShloMosaic Idealize.ShloMosaic.TcCoe Idealize.SL.Sem
open Cert.KernelOutIdeal.Gen

/-- Row `p` of `l` times column `q` of `w`. -/
def mulAt (l : FVec Ideal S1024x1024 .bf16) (w : FVec Ideal S1024x4096 .bf16) (p : Fin 1024) (q : Fin 4096) : Ideal .f32 :=
  ∑ k : Fin 1024, l (ix2 p k) * w (ix2 k q)

theorem pay1_at (l : FVec Ideal S1024x1024 .bf16) (w : FVec Ideal S1024x512 .bf16) (p : Fin 1024) (q : Fin 512) :
    k0_pay1 (F := Ideal) l w (ix2 p q) = ∑ k : Fin 1024, l (ix2 p k) * w (ix2 k q) := by
  pointwise [k0_pay1]
theorem pay7_at (l : FVec Ideal S1024x1024 .bf16) (w : FVec Ideal S1024x512 .bf16) (a : FVec Ideal S1024x512 .f32) (p : Fin 1024) (q : Fin 512) :
    k0_pay7 (F := Ideal) l w a (ix2 p q) = a (ix2 p q) + ∑ k : Fin 1024, l (ix2 p k) * w (ix2 k q) := by
  pointwise [k0_pay7]

theorem tile_at {e : EltTy} (w : Vec Ideal S1024x4096 e) (q : Fin 4096) (k : Fin 1024) :
    View.ld w (tileR ⟨q.val / 512, by have := q.isLt; omega⟩) (ix2 k ⟨q.val % 512, Nat.mod_lt _ (by decide)⟩) = w (ix2 k q) := by
  refine (show _ = w ((tileR _).emb _) from rfl).trans (congrArg w (funext fun a => Fin.ext ?_))
  rw [Rect.emb_apply]
  match a with
  | 0 => exact (Nat.zero_add _).trans (Nat.one_mul _)
  | 1 =>
    show 512 * (q.val / 512) + 1 * (q.val % 512) = q.val
    omega

theorem accNew_at (l : FVec Ideal S1024x1024 .bf16) (w : FVec Ideal S1024x4096 .bf16) (p : Fin 1024) (q : Fin 4096) :
    accNew (F := Ideal) l w (ix2 p q) = mulAt l w p q := by
  unfold accNew tiled mulAt
  refine (pay1_at _ _ _ _).trans (Finset.sum_congr rfl fun k _ => congrArg (_ * ·) ?_)
  exact tile_at (e := .bf16) w q k
theorem accAdd_at (l : FVec Ideal S1024x1024 .bf16) (w : FVec Ideal S1024x4096 .bf16) (a : FVec Ideal S1024x4096 .f32) (p : Fin 1024) (q : Fin 4096) :
    accAdd (F := Ideal) l w a (ix2 p q) = a (ix2 p q) + mulAt l w p q := by
  unfold accAdd tiled mulAt
  refine (pay7_at _ _ _ _ _).trans (congr (congrArg _ (tile_at (e := .f32) a q p)) (Finset.sum_congr rfl fun k _ => congrArg (_ * ·) ?_))
  exact tile_at (e := .bf16) w q k

theorem lhsS_at (s : Vec Ideal S1024x1024 .bf16) (p k : Fin 1024) : lhsS (F := Ideal) s (ix2 p k) = s (ix2 p k) := by
  unfold lhsS
  refine (show _ = s (Rect.emb _ _) from rfl).trans (congrArg s (funext fun a => Fin.ext ?_))
  rw [Rect.emb_apply]
  match a with
  | 0 => exact (Nat.zero_add _).trans (Nat.one_mul _)
  | 1 => exact (Nat.zero_add _).trans (Nat.one_mul _)
theorem ix3_congr {n₀ n₁ n₂ : ℕ} {a a' : Fin n₀} {b b' : Fin n₁} {c c' : Fin n₂} (ha : a = a') (hb : b = b') (hc : c = c') :
    (ix3 a b c : (⟨3, ![n₀, n₁, n₂]⟩ : Shape).Idx) = ix3 a' b' c' := by rw [ha, hb, hc]
theorem lhsL_at (l : Vec Ideal S8x1024x128 .f32) (p k : Fin 1024) :
    lhsL (F := Ideal) l (ix2 p k) = l (ix3 ⟨k.val / 128, by have := k.isLt; omega⟩ p ⟨k.val % 128, Nat.mod_lt _ (by decide)⟩) := by
  unfold lhsL
  have hk := k.isLt
  pointwise [k0_pay24]
  repeat' split
  all_goals
    refine congrArg l (ix3_congr ?_ rfl ?_) <;> (apply Fin.ext; simp; omega)

/-- A row's mean; -/
def meanOf (r : Fin 4096 → Ideal .f32) : Ideal .f32 := Ideal.div (∑ k : Fin 4096, r k) (Ideal.ofBits .f32 0x45800000#32)
/-- the LayerNorm of row `r` at column `q`. -/
def normOf (r : Fin 4096 → Ideal .f32) (q : Fin 4096) (g b : Ideal .f32) : Ideal .f32 :=
  (r q - meanOf r) * Ideal.rsqrt (meanOf (fun k => (r k - meanOf r) * (r k - meanOf r)) + Ideal.ofBits .f32 0x3727C5AC#32) * g + b

theorem outW_at (a x : FVec Ideal S64x4096 .f32) (g b : FVec Ideal S1x4096 .f32) (p : Fin 64) (q : Fin 4096) :
    outW (F := Ideal) a x g b (ix2 p q)
      = normOf (fun k => a (ix2 p k) + Ideal.ofBits .f32 0x3F9837F0#32 * x (ix2 p k)) q (g (ix2 0 q)) (b (ix2 0 q)) := by
  unfold outW
  pointwise [k0_pay10, k0_pay30, k0_pay31, asPlane]
  unfold normOf meanOf
  simp only [ix2_eq_valueIdx]

open Cert.ReferenceOutIdeal.Read in
theorem ref_at (x0 : Vec Ideal S8192x4096 .bf16) (x1 : Vec Ideal S32x8192x128 .f32) (x2 : Vec Ideal S1x8192x4096 .f32) (x3 : Vec Ideal S4x2048x4096 .f32)
    (x4 x5 : Vec Ideal S1x4096 .f32) (p : Fin 8192) (q : Fin 4096) :
    val_main_v35 (F := Ideal) x0 x1 x2 x3 x4 x5 (ix2 p q)
      = normOf (fun k => val_main_v9 (F := Ideal) x0 x1 x2 x3 (ix2 p k)) q (x4 (ix2 0 q)) (x5 (ix2 0 q)) := by
  have r1 : ∀ (j : Cert.ReferenceOutIdeal.S8192x1.Idx) (k : Fin 4096), idx_main_v10 (idx_main_v11 j) k = ix2 (j 0) k := fun j k => funext fun a =>
    match a with
    | 0 => rfl
    | 1 => rfl
  have r2 : ∀ (j : Cert.ReferenceOutIdeal.S8192x1.Idx) (k : Fin 4096), idx_main_v17 (idx_main_v18 j) k = ix2 (j 0) k := fun j k => funext fun a =>
    match a with
    | 0 => rfl
    | 1 => rfl
  have e4 : idx_main_v28 (idx_main_v29 (idx_main_v30 (ix2 p q))) = ix2 0 q := funext fun a =>
    match a with
    | 0 => rfl
    | 1 => Fin.ext (Nat.mod_eq_of_lt q.isLt)
  have e5 : idx_main_v32 (idx_main_v33 (idx_main_v34 (ix2 p q))) = ix2 0 q := funext fun a =>
    match a with
    | 0 => rfl
    | 1 => Fin.ext (Nat.mod_eq_of_lt q.isLt)
  pointwise [val_main_v35_apply, val_main_v34_apply, val_main_v33_apply, val_main_v32_apply, val_main_v31_apply, val_main_v30_apply, val_main_v29_apply,
    val_main_v28_apply, val_main_v27_apply, val_main_v26_apply, val_main_v25_apply, val_main_v24_apply, val_main_v23_apply, val_main_v22_apply,
    val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_cst_0_apply, val_main_cst_1_apply,
    val_main_cst_2_apply, val_main_cst_3_apply, val_main_cst_4_apply, r1, r2, e4, e5]
  rfl

open Cert.ReferenceOutIdeal.Read in
theorem v3_left (x0 : Vec Ideal S8192x4096 .bf16) (x1 : Vec Ideal S32x8192x128 .f32) (p k : Fin 8192) (j : Fin 4096) (h : j.val = k.val) :
    val_main_v3 (F := Ideal) x0 x1 (ix2 p k) = x0 (ix2 p j) := by
  unfold val_main_v3
  refine (concatenate_pair_apply_left (t := Cert.ReferenceOutIdeal.S8192x8192) (s₁ := Cert.ReferenceOutIdeal.S8192x4096) 1 (val_main_v2 (F := Ideal) x0) _ _
    (ix2 p k) rfl (ix2 p j) fun b => ?_).trans rfl
  match b with
  | 0 => rfl
  | 1 => exact h
open Cert.ReferenceOutIdeal.Read in
theorem v3_right (x0 : Vec Ideal S8192x4096 .bf16) (x1 : Vec Ideal S32x8192x128 .f32) (p k : Fin 8192) (j : Fin 4096) (h : j.val + 4096 = k.val) :
    val_main_v3 (F := Ideal) x0 x1 (ix2 p k)
      = x1 (ix3 ⟨j.val / 128, by have := j.isLt; omega⟩ p ⟨j.val % 128, Nat.mod_lt _ (by decide)⟩) := by
  unfold val_main_v3
  refine (concatenate_pair_apply_right (t := Cert.ReferenceOutIdeal.S8192x8192) (s₁ := Cert.ReferenceOutIdeal.S8192x4096)
    (s₂ := Cert.ReferenceOutIdeal.S8192x4096) 1 _ (val_main_v1 (F := Ideal) x1) _ (ix2 p k) rfl rfl (ix2 p j) (fun b hb => ?_) h).trans ?_
  · match b with
    | 0 => rfl
    | 1 => exact absurd rfl hb
  · pointwise [val_main_v1, val_main_v0]
open Cert.ReferenceOutIdeal.Read in
theorem v9_at (x0 : Vec Ideal S8192x4096 .bf16) (x1 : Vec Ideal S32x8192x128 .f32) (x2 : Vec Ideal S1x8192x4096 .f32) (x3 : Vec Ideal S4x2048x4096 .f32)
    (p : Fin 8192) (q : Fin 4096) :
    val_main_v9 (F := Ideal) x0 x1 x2 x3 (ix2 p q)
      = Ideal.ofBits .f32 0x3F9837F0#32 * val_main_v4 (F := Ideal) x3 (ix2 p q)
        + ∑ k : Fin 8192, val_main_v3 (F := Ideal) x0 x1 (ix2 p k) * val_main_v7 (F := Ideal) x2 (ix2 k q) := by
  have l : ∀ k, lidx_main_v8 (ix2 p q) k = ix2 p k := fun k => funext fun a =>
    match a with
    | 0 => rfl
    | 1 => rfl
  have r : ∀ k, ridx_main_v8 (ix2 p q) k = ix2 k q := fun k => funext fun a =>
    match a with
    | 0 => rfl
    | 1 => rfl
  rw [val_main_v9_apply, val_main_v8_apply]
  pointwise [val_main_v6_apply, val_main_v5_apply, val_main_cst_apply, l, r]

theorem idx : ∀ t : Fin cfg0.N, (win0_0.index t = ![t.val / 8, min (t.val % 8) 3] ∧ win0_1.index t = ![t.val % 8 - 4, t.val / 8, 0])
    ∧ win0_2.index t = ![t.val % 8, 0] ∧ win0_3.index t = ![0, 0] ∧ win0_4.index t = ![0, 0] := by decide +kernel

variable (m : (ℓ : Loc nD τ sig) → Buf (Elt Ideal) ℓ) (c : Dev nD)

theorem inW_at (t : Fin cfg0.N) (k : Fin 1024) (q : Fin 4096) :
    (inW m c t : Vec Ideal S1024x4096 .bf16) (ix2 k q)
      = Cert.ReferenceOutIdeal.Read.val_main_v7 (F := Ideal) (m (c.tc.loc main_arg2)) (ix2 ⟨1024 * (t.val % 8) + k.val, by have := k.isLt; omega⟩ q) := by
  have e := (idx t).2.1
  have e : inW m c t (ix2 k q) = V m c main_v2 (ix2 ⟨1024 * (t.val % 8) + k.val, by have := k.isLt; omega⟩ q) := by
    blk_ext [inW, iblk, e]
  rw [e]
  entry_read
  pointwise [Cert.ReferenceOutIdeal.Read.val_main_v7]

/-- The reference's sum of products, addend `k` of entry `(p, q)`. -/
def addend (p : Fin 8192) (q : Fin 4096) (k : ℕ) : Ideal .f32 :=
  Cert.ReferenceOutIdeal.Read.val_main_v3 (F := Ideal) (m (c.tc.loc main_arg0)) (m (c.tc.loc main_arg1)) (ix2 p ⟨k % 8192, Nat.mod_lt _ (by decide)⟩)
    * Cert.ReferenceOutIdeal.Read.val_main_v7 (F := Ideal) (m (c.tc.loc main_arg2)) (ix2 ⟨k % 8192, Nat.mod_lt _ (by decide)⟩ q)

theorem inS_at (t : Fin cfg0.N) (h : t.val % 8 < 4) (r k : Fin 1024) (p : Fin 8192) (hp : p.val = 1024 * (t.val / 8) + r.val)
    (k' : Fin 8192) (hk : k'.val = 1024 * (t.val % 8) + k.val) :
    lhsS (inS m c t) (ix2 r k)
      = Cert.ReferenceOutIdeal.Read.val_main_v3 (F := Ideal) (m (c.tc.loc main_arg0)) (m (c.tc.loc main_arg1)) (ix2 p k') := by
  have e := (idx t).1.1
  have hr := k.isLt
  have hmin : min (t.val % 8) 3 = t.val % 8 := by omega
  rw [lhsS_at, v3_left _ _ p k' ⟨1024 * (t.val % 8) + k.val, by omega⟩ hk.symm]
  have e : inS m c t (ix2 r k) = V m c main_arg0 (ix2 p ⟨1024 * (t.val % 8) + k.val, by omega⟩) := by
    blk_ext [inS, iblk, e]
  rw [e]
  entry_read
  rfl

theorem inL_at (t : Fin cfg0.N) (h : 4 ≤ t.val % 8) (r k : Fin 1024) (p : Fin 8192) (hp : p.val = 1024 * (t.val / 8) + r.val)
    (k' : Fin 8192) (hk : k'.val = 1024 * (t.val % 8) + k.val) :
    lhsL (inL m c t) (ix2 r k)
      = Cert.ReferenceOutIdeal.Read.val_main_v3 (F := Ideal) (m (c.tc.loc main_arg0)) (m (c.tc.loc main_arg1)) (ix2 p k') := by
  have e := (idx t).1.2
  have hr := k.isLt
  rw [lhsL_at, v3_right _ _ p k' ⟨1024 * (t.val % 8 - 4) + k.val, by omega⟩ (by show 1024 * (t.val % 8 - 4) + k.val + 4096 = k'.val; omega)]
  have e : inL m c t (ix3 ⟨k.val / 128, by omega⟩ r ⟨k.val % 128, Nat.mod_lt _ (by decide)⟩)
      = V m c main_arg1 (ix3 ⟨(1024 * (t.val % 8 - 4) + k.val) / 128, by omega⟩ p ⟨(1024 * (t.val % 8 - 4) + k.val) % 128, Nat.mod_lt _ (by decide)⟩) := by
    blk_ext [inL, iblk, e]
  rw [e]
  entry_read
  rfl

theorem mul_at (t : Fin cfg0.N) (l : FVec Ideal S1024x1024 .bf16) (r : Fin 1024) (p : Fin 8192) (q : Fin 4096)
    (hl : ∀ k : Fin 1024, l (ix2 r k) = Cert.ReferenceOutIdeal.Read.val_main_v3 (F := Ideal) (m (c.tc.loc main_arg0)) (m (c.tc.loc main_arg1))
      (ix2 p ⟨1024 * (t.val % 8) + k.val, by have := k.isLt; omega⟩)) :
    mulAt l (inW m c t) r q = ∑ k ∈ Finset.range 1024, addend m c p q (1024 * (t.val % 8) + k) := by
  rw [Finset.sum_range]
  unfold mulAt
  refine Finset.sum_congr rfl fun k _ => ?_
  have hk := k.isLt
  have e : (⟨(1024 * (t.val % 8) + k.val) % 8192, Nat.mod_lt _ (by decide)⟩ : Fin 8192) = ⟨1024 * (t.val % 8) + k.val, by omega⟩ :=
    Fin.ext (Nat.mod_eq_of_lt (by omega))
  unfold addend
  rw [e, hl k, inW_at]

theorem acc_at (I : Fin 8) (r : Fin 1024) (p : Fin 8192) (hp : p.val = 1024 * I.val + r.val) (q : Fin 4096) (n : ℕ) : ∀ _ : n < 8,
    accUp m c (8 * I.val + n) (ix2 r q) = ∑ k ∈ Finset.range (1024 * (n + 1)), addend m c p q k := by
  have hI := I.isLt
  have hv : ∀ n, n < 8 → (pt (8 * I.val + n)).val = 8 * I.val + n := fun n h => Nat.mod_eq_of_lt (by omega)
  induction n with
  | zero =>
    intro _
    have h := hv 0 (by omega)
    rw [accUp_new m c _ (by omega), accNew_at, mul_at m c _ _ r p q fun k => inS_at m c _ (by omega) r k p (by omega) _ rfl]
    refine Finset.sum_congr rfl fun k _ => congrArg _ ?_
    omega
  | succ n ih =>
    intro hn
    have h := hv (n + 1) hn
    have e : 8 * I.val + (n + 1) - 1 = 8 * I.val + n := by omega
    have ek : ∀ k, 1024 * ((pt (8 * I.val + (n + 1))).val % 8) + k = 1024 * (n + 1) + k := fun k => by omega
    rw [show 1024 * (n + 1 + 1) = 1024 * (n + 1) + 1024 by omega, Finset.sum_range_add, ← ih (by omega)]
    by_cases h4 : n + 1 < 4
    · rw [accUp_ssd m c _ (by omega) (by omega), accAdd_at, mul_at m c _ _ r p q fun k => inS_at m c _ (by omega) r k p (by omega) _ rfl, e]
      simp only [ek]
    · rw [accUp_lru m c _ (by omega), accAdd_at, mul_at m c _ _ r p q fun k => inL_at m c _ (by omega) r k p (by omega) _ rfl, e]
      simp only [ek]

theorem xBlk_read (b : Fin 128) (f : Vec Ideal S8192x4096 .f32) (z : S64x4096.Idx) :
    (xBlk b).view.read (Elt Ideal) f z = f (ix2 ⟨64 * b.val + (z 0).val, by have := b.isLt; have : (z 0).val < 64 := (z 0).isLt; omega⟩ (z 1)) := by
  unfold xBlk
  refine (show _ = f ((Rect.unit (s := S8192x4096) (rowOff b) S64x4096.size (rowOff_inb b)).emb z) from rfl).trans (congrArg f (funext fun a => ?_))
  fin_cases a
  · exact Fin.ext (by rw [Rect.emb_apply]; show 64 * b.val + 1 * (z 0).val = 64 * b.val + (z 0).val; omega)
  · exact Fin.ext (by rw [Rect.emb_apply]; show 0 + 1 * (z 1).val = (z 1).val; omega)
theorem aBlk_read (j : Fin 16) (D : Vec Ideal S1024x4096 .f32) (z : S64x4096.Idx) :
    (aBlk j).view.read (Elt Ideal) (aM.view.rep D) z
      = D (ix2 ⟨64 * j.val + (z 0).val, by have := j.isLt; have : (z 0).val < 64 := (z 0).isLt; omega⟩ (z 1)) := by
  unfold aBlk
  refine (show _ = aM.view.read (Elt Ideal) (aM.view.rep D) ((Rect.unit (s := S1024x4096) (accOff j) S64x4096.size (accOff_inb j)).emb z) from rfl).trans ?_
  rw [rep_read]
  refine congrArg D (funext fun a => ?_)
  fin_cases a
  · exact Fin.ext (by rw [Rect.emb_apply]; show 64 * j.val + 1 * (z 0).val = 64 * j.val + (z 0).val; omega)
  · exact Fin.ext (by rw [Rect.emb_apply]; show 0 + 1 * (z 1).val = (z 1).val; omega)

theorem x_at (p : Fin 8192) (q : Fin 4096) : V m c main_v0 (ix2 p q)
    = Cert.ReferenceOutIdeal.Read.val_main_v4 (F := Ideal) (m (c.tc.loc main_arg3)) (ix2 p q) := by
  entry_read
  pointwise [Cert.ReferenceOutIdeal.Read.val_main_v4]

theorem rowOf_at (g : Vec Ideal S1x4096 .f32) (q : Fin 4096) : rowOf g (ix2 0 q) = g (ix2 0 q) := by
  refine (show _ = g (Rect.emb _ _) from rfl).trans (congrArg g (funext fun a => Fin.ext ?_))
  rw [Rect.emb_apply]
  match a with
  | 0 => rfl
  | 1 => exact (Nat.zero_add _).trans (Nat.one_mul _)
theorem inG_at (t : Fin cfg0.N) (q : Fin 4096) : inG m c t (ix2 0 q) = m (c.tc.loc main_arg4) (ix2 0 q) := by
  have e := (idx t).2.2.1
  have e : inG m c t (ix2 0 q) = V m c main_arg4 (ix2 0 q) := by blk_ext [inG, iblk, e]
  rw [e]
  entry_read
  rfl
theorem inB_at (t : Fin cfg0.N) (q : Fin 4096) : inB m c t (ix2 0 q) = m (c.tc.loc main_arg5) (ix2 0 q) := by
  have e := (idx t).2.2.2
  have e : inB m c t (ix2 0 q) = V m c main_arg5 (ix2 0 q) := by blk_ext [inB, iblk, e]
  rw [e]
  entry_read
  rfl

/-- The result is the reference's. -/
theorem final_at (p : Fin 8192) (q : Fin 4096) : final m c (ix2 p q)
    = Cert.ReferenceOutIdeal.Read.val_main_v35 (F := Ideal) (m (c.tc.loc main_arg0)) (m (c.tc.loc main_arg1)) (m (c.tc.loc main_arg2))
        (m (c.tc.loc main_arg3)) (m (c.tc.loc main_arg4)) (m (c.tc.loc main_arg5)) (ix2 p q) := by
  have hp := p.isLt
  have hb : (bk (p.val / 64)).val = p.val / 64 := Nat.mod_eq_of_lt (by omega)
  have ha : (ak (p.val / 64)).val = p.val / 64 % 16 := rfl
  rw [ref_at]
  refine (outW_at _ _ _ _ ⟨p.val % 64, Nat.mod_lt _ (by decide)⟩ q).trans ?_
  rw [rowOf_at, rowOf_at, inG_at, inB_at]
  refine congrFun (congrFun (congrFun (congrArg normOf (funext fun k => ?_)) q) _) _
  rw [v9_at, aBlk_read, xBlk_read]
  refine (add_comm _ _).trans (congr (congrArg _ (congrArg _ ?_)) ?_)
  · refine (congrArg (fun r => V m c main_v0 (ix2 r k)) (Fin.ext ?_)).trans (x_at m c p k)
    show 64 * (bk (p.val / 64)).val + p.val % 64 = p.val
    omega
  · refine (acc_at m c ⟨p.val / 64 / 16, by omega⟩ _ p ?_ k 7 (by decide)).trans ?_
    · show p.val = 1024 * (p.val / 64 / 16) + (64 * (ak (p.val / 64)).val + p.val % 64)
      omega
    · rw [Finset.sum_range]
      refine Finset.sum_congr rfl fun j _ => ?_
      have e : (⟨j.val % 8192, Nat.mod_lt _ (by decide)⟩ : Fin 8192) = j := Fin.ext (Nat.mod_eq_of_lt j.isLt)
      unfold addend
      rw [e]

end Cert.KernelOutIdeal.Out

end
-- ==== Proof.OutKernel.lean ====
module

public import proofs.«01_k».proof.Proof.OutFrame
public import proofs.«01_k».proof.Proof.Gen.KernelOut
public import proofs.«01_k».proof.Defs

@[expose] public section

noncomputable section

namespace Cert.Proof.OutProj

open Idealize.ShloMosaic Idealize.SL.Sem Idealize.ShloMosaic.Tactic

/-- The frame's statement of the idealized text, read at the bit-exact floats. -/
def Framed : Prop :=
  ∀ (m : (ℓ : Loc KernelOutIdeal.nD KernelOutIdeal.τ KernelOutIdeal.sig) → Buf (Elt Bits) ℓ) (g : Dev KernelOutIdeal.nD → PrngReg), True →
    θ_run (KernelOutIdeal.defs (F := Bits)) (onTc (τ := KernelOutIdeal.τ) (KernelOutIdeal.main (F := Bits))) ⟨m, fun _ => 0, g⟩ (fun r => (∀ c : Dev KernelOutIdeal.nD,
      r.2.mem ((c.tc : Thread KernelOutIdeal.nD KernelOutIdeal.τ).loc KernelOutIdeal.main_arg0) = m ((c.tc : Thread KernelOutIdeal.nD KernelOutIdeal.τ).loc KernelOutIdeal.main_arg0)
      ∧ r.2.mem ((c.tc : Thread KernelOutIdeal.nD KernelOutIdeal.τ).loc KernelOutIdeal.main_arg1) = m ((c.tc : Thread KernelOutIdeal.nD KernelOutIdeal.τ).loc KernelOutIdeal.main_arg1)
      ∧ r.2.mem ((c.tc : Thread KernelOutIdeal.nD KernelOutIdeal.τ).loc KernelOutIdeal.main_arg2) = m ((c.tc : Thread KernelOutIdeal.nD KernelOutIdeal.τ).loc KernelOutIdeal.main_arg2)
      ∧ r.2.mem ((c.tc : Thread KernelOutIdeal.nD KernelOutIdeal.τ).loc KernelOutIdeal.main_arg3) = m ((c.tc : Thread KernelOutIdeal.nD KernelOutIdeal.τ).loc KernelOutIdeal.main_arg3)
      ∧ r.2.mem ((c.tc : Thread KernelOutIdeal.nD KernelOutIdeal.τ).loc KernelOutIdeal.main_arg4) = m ((c.tc : Thread KernelOutIdeal.nD KernelOutIdeal.τ).loc KernelOutIdeal.main_arg4)
      ∧ r.2.mem ((c.tc : Thread KernelOutIdeal.nD KernelOutIdeal.τ).loc KernelOutIdeal.main_arg5) = m ((c.tc : Thread KernelOutIdeal.nD KernelOutIdeal.τ).loc KernelOutIdeal.main_arg5))
      ∧ r.2.sem = fun _ => 0)

theorem framed : Framed := fun m g _ => KernelOutIdeal.Out.frame m g

/-- The two programs are one text under two names. -/
theorem same_text : quiescent_KernelOut (hKernelOut := KernelOut.Gen.facts) = Framed := by sl_kernel_rfl

theorem frame_kernel : quiescent_KernelOut (hKernelOut := KernelOut.Gen.facts) := by
  rw [same_text]; exact framed

end Cert.Proof.OutProj

end
-- ==== Proof.OutProj.lean ====
module

public import proofs.«01_k».proof.Defs
public import proofs.«01_k».proof.Proof.OutValue
public import proofs.«01_k».proof.Proof.OutKernel

@[expose] public section

set_option maxRecDepth 16384

noncomputable section

namespace Cert.Proof.OutProj

open Idealize.ShloMosaic Idealize.ShloMosaic.TcCoe Idealize.SL.Sem
open Cert.KernelOutIdeal Cert.KernelOutIdeal.Gen

theorem written (m : (ℓ : Loc nD τ sig) → Buf (Elt Ideal) ℓ) (c : Dev nD) : Out.final m c
    = ReferenceOutIdeal.Read.val_main_v35 (F := Ideal) (m (c.tc.loc main_arg0)) (m (c.tc.loc main_arg1)) (m (c.tc.loc main_arg2))
        (m (c.tc.loc main_arg3)) (m (c.tc.loc main_arg4)) (m (c.tc.loc main_arg5)) := by
  funext y
  have e : y = ix2 (y 0) (y 1) := funext fun a =>
    match a with
    | 0 => rfl
    | 1 => rfl
  rw [e]
  exact Out.final_at m c _ _

theorem frame_reference : quiescent_ReferenceOutIdeal (hReferenceOutIdeal := ReferenceOutIdeal.Gen.facts) := fun m ρ _ =>
  (θ_run _ _ _).mono (fun r h => ⟨fun c => (h c).2, sem_eq_zero_of_no_sems (by decide) r.2⟩) (ReferenceOutIdeal.Value.run m ρ)

/-- The call writes the layer's last stage: the two mixers' outputs times the output weights, the scaled residual added,
    and the LayerNorm of each row. -/
theorem value : algebraic_KernelOutIdeal_ReferenceOutIdeal (hKernelOutIdeal := KernelOutIdeal.Gen.facts) (hReferenceOutIdeal := ReferenceOutIdeal.Gen.facts) := by
  intro m g m' g' _ agree
  refine ⟨fun c => ReferenceOutIdeal.Read.val_main_v35 (F := Ideal) (m (c.tc.loc main_arg0)) (m (c.tc.loc main_arg1)) (m (c.tc.loc main_arg2))
    (m (c.tc.loc main_arg3)) (m (c.tc.loc main_arg4)) (m (c.tc.loc main_arg5)), ?_, ?_⟩
  · exact (θ_run _ _ _).mono (fun r h c => ⟨(h.1.written c (by decide : main_v3 ∈ Out.R0)).trans ((Out.G_res m c).trans (written m c)), Out.kept m h.1 c⟩) (Out.run m g)
  · refine (θ_run _ _ _).mono (fun r h c => ⟨(h c).1.trans ?_, (h c).2⟩) (ReferenceOutIdeal.Value.run m' g')
    rw [ReferenceOutIdeal.Read.val_main_v35_eq, (agree c).1, (agree c).2.1, (agree c).2.2.1, (agree c).2.2.2.1, (agree c).2.2.2.2.1, (agree c).2.2.2.2.2]

end Cert.Proof.OutProj

end
-- ==== Proof.lean ====
module

public import proofs.«01_k».proof.Defs
public import proofs.«01_k».proof.Proof.Gen.Kernel.Frame
public import proofs.«01_k».proof.Proof.Gen.KernelA.Frame
public import proofs.«01_k».proof.Proof.Gen.KernelDt.Frame
public import proofs.«01_k».proof.Proof.InProjLru
public import proofs.«01_k».proof.Proof.InProj
public import proofs.«01_k».proof.Proof.XcastDt
public import proofs.«01_k».proof.Proof.OutProj

@[expose] public section

noncomputable section

namespace Cert.Proof

open Idealize.ShloMosaic Idealize.SL.Sem

/-- The references launch no kernel and declare no semaphore: their runs read at the arguments. -/
theorem frame_lru_reference : quiescent_ReferenceIdeal (hReferenceIdeal := ReferenceIdeal.Gen.facts) := fun m ρ _ =>
  (θ_run _ _ _).mono (fun r h => ⟨fun c => (h c).2, sem_eq_zero_of_no_sems (by decide) r.2⟩) (ReferenceIdeal.Value.run m ρ)

theorem frame_in_proj_reference : quiescent_ReferenceAIdeal (hReferenceAIdeal := ReferenceAIdeal.Gen.facts) := fun m ρ _ =>
  (θ_run _ _ _).mono (fun r h => ⟨fun c => (h c).2, sem_eq_zero_of_no_sems (by decide) r.2⟩) (ReferenceAIdeal.Value.run m ρ)

theorem frame_dt_reference : quiescent_ReferenceDtIdeal (hReferenceDtIdeal := ReferenceDtIdeal.Gen.facts) := fun m ρ _ =>
  (θ_run _ _ _).mono (fun r h => ⟨fun c => (h c).2.2, sem_eq_zero_of_no_sems (by decide) r.2⟩) (ReferenceDtIdeal.Value.run m ρ)

theorem claim : Cert.Claim :=
  ⟨Kernel.Gen.facts, KernelIdeal.Gen.facts, ReferenceIdeal.Gen.facts, KernelA.Gen.facts, KernelAIdeal.Gen.facts,
    ReferenceAIdeal.Gen.facts, KernelDt.Gen.facts, KernelDtIdeal.Gen.facts, ReferenceDtIdeal.Gen.facts,
    KernelOut.Gen.facts, KernelOutIdeal.Gen.facts, ReferenceOutIdeal.Gen.facts,
    fun m ρ _ => Kernel.Gen.frame m ρ, fun m ρ _ => KernelIdeal.Gen.frame m ρ, frame_lru_reference,
    fun m ρ _ => KernelA.Gen.frame m ρ, fun m ρ _ => KernelAIdeal.Gen.frame m ρ, frame_in_proj_reference,
    fun m ρ _ => KernelDt.Gen.frame m ρ, fun m ρ _ => KernelDtIdeal.Gen.frame m ρ, frame_dt_reference,
    OutProj.frame_kernel, fun m ρ _ => KernelOutIdeal.Out.frame m ρ, OutProj.frame_reference,
    trivial, InProjLru.value, trivial, InProj.value, trivial, XcastDt.value, trivial, OutProj.value⟩

end Cert.Proof

end
